-- ==== Defs.lean ====
def Pre_Kernel [hPre_batch_in_range : Cert.Pre_batch_in_range.Facts] (m : (ℓ : Loc Cert.Kernel.nD Cert.Kernel.τ Cert.Kernel.sig) → Buf (Elt Bits) ℓ) : Prop :=
  ∀ c : Dev Cert.Kernel.nD,
    (Cert.Pre_batch_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_batch_in_range : Cert.Pre_batch_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_sorted_and_finite [hPre_sorted_and_finite : Cert.Pre_sorted_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_and_finite [hPre_sorted_and_finite : Cert.Pre_sorted_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def quiescent_Kernel [hKernel : Cert.Kernel.Facts] [hPre_batch_in_range : Cert.Pre_batch_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_sorted_and_finite [hKernelIdeal : Cert.KernelIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_sorted_and_finite [hReferenceIdeal : Cert.ReferenceIdeal.Facts] [hPre_sorted_and_finite : Cert.Pre_sorted_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_sorted_and_finite [hKernelIdeal : Cert.KernelIdeal.Facts] [hReferenceIdeal : Cert.ReferenceIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_batch_in_range : Cert.Pre_batch_in_range.Facts) (hPre_sorted_and_finite : Cert.Pre_sorted_and_finite.Facts),
    quiescent_Kernel (hKernel := hKernel) (hPre_batch_in_range := hPre_batch_in_range)
    ∧ quiescent_KernelIdeal (hKernelIdeal := hKernelIdeal) (hPre_batch_in_range := hPre_batch_in_range)
    ∧ quiescent_KernelIdeal_pre_sorted_and_finite (hKernelIdeal := hKernelIdeal) (hPre_sorted_and_finite := hPre_sorted_and_finite)
    ∧ quiescent_ReferenceIdeal (hReferenceIdeal := hReferenceIdeal)
    ∧ quiescent_ReferenceIdeal_pre_sorted_and_finite (hReferenceIdeal := hReferenceIdeal) (hPre_sorted_and_finite := hPre_sorted_and_finite)
    ∧ preserves_Kernel_KernelIdeal
    ∧ algebraic_KernelIdeal_ReferenceIdeal_pre_sorted_and_finite (hKernelIdeal := hKernelIdeal) (hReferenceIdeal := hReferenceIdeal) (hPre_sorted_and_finite := hPre_sorted_and_finite)
-- ==== Pre_batch_in_range.lean ====
abbrev S8192x256 : Shape := ⟨2, ![8192, 256]⟩
abbrev S256x256 : Shape := ⟨2, ![256, 256]⟩
abbrev S256 : Shape := ⟨1, ![256]⟩
abbrev S8192 : Shape := ⟨1, ![8192]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : FVec F S8192x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : IVec S8192 32) : IVec S8192 1 :=
  let main_c : IVec S_ 32 := constantI S_ 32 0#32
  let main_v0 : IVec S8192 32 := broadcastInDim S8192 ![] bcast_S_S8192 main_c
  let main_v1 : IVec S8192 1 := cmpi .sge main_arg9 main_v0
  let main_c_0 : IVec S_ 32 := constantI S_ 32 64#32
  let main_v2 : IVec S8192 32 := broadcastInDim S8192 ![] bcast_S_S8192 main_c_0
  let main_v3 : IVec S8192 1 := cmpi .slt main_arg9 main_v2
  let main_v4 : IVec S8192 1 := andi main_v1 main_v3
  main_v4
-- ==== Pre_sorted_and_finite.lean ====
abbrev S8192x256 : Shape := ⟨2, ![8192, 256]⟩
abbrev S256x256 : Shape := ⟨2, ![256, 256]⟩
abbrev S256 : Shape := ⟨1, ![256]⟩
abbrev S8192 : Shape := ⟨1, ![8192]⟩
abbrev S_ : Shape := ⟨0, ![]⟩
abbrev S8191 : Shape := ⟨1, ![8191]⟩

class Facts : Prop where
  bcast_S_S8192 : S_.BroadcastsInDim S8192 (![] : Fin 0 → Fin S8192.rank)
  slices_S8192_S8191_0 : S8192.Slices ![0] S8191
  slices_S8192_S8191_1 : S8192.Slices ![1] S8191
  bcast_S_S8192x256 : S_.BroadcastsInDim S8192x256 (![] : Fin 0 → Fin S8192x256.rank)
  bcast_S_S256x256 : S_.BroadcastsInDim S256x256 (![] : Fin 0 → Fin S256x256.rank)
  bcast_S_S256 : S_.BroadcastsInDim S256 (![] : Fin 0 → Fin S256.rank)

variable [Facts]

def fn_part1 {F : FTy → Type} [FloatOps F] (main_arg4 : FVec F S256 .f32) (main_arg5 : FVec F S256x256 .f32) (main_arg6 : FVec F S256 .f32) (main_v4 : IVec S8192 1) (main_v7 : IVec S8191 1) (main_v10 : IVec S8192x256 1) (main_v13 : IVec S256x256 1) (main_v16 : IVec S256 1) (main_v17 : FVec F S256x256 .f32) (main_cst_3 : FVec F S_ .f32) : IVec S8192 1 × IVec S8191 1 × IVec S8192x256 1 × IVec S256x256 1 × IVec S256 1 × IVec S256x256 1 × IVec S256 1 × IVec S256x256 1 × IVec S256 1 :=
  let main_v18 : FVec F S256x256 .f32 := broadcastInDim S256x256 ![] bcast_S_S256x256 main_cst_3
  let main_v19 : IVec S256x256 1 := cmpf .olt main_v17 main_v18
  let main_v20 : FVec F S256 .f32 := Host.absf main_arg4
  let main_cst_4 : FVec F S_ .f32 := constant S_ .f32 0x7F800000#32
  let main_v21 : FVec F S256 .f32 := broadcastInDim S256 ![] bcast_S_S256 main_cst_4
  let main_v22 : IVec S256 1 := cmpf .olt main_v20 main_v21
  let main_v23 : FVec F S256x256 .f32 := Host.absf main_arg5
  let main_cst_5 : FVec F S_ .f32 := constant S_ .f32 0x7F800000#32
  let main_v24 : FVec F S256x256 .f32 := broadcastInDim S256x256 ![] bcast_S_S256x256 main_cst_5
  let main_v25 : IVec S256x256 1 := cmpf .olt main_v23 main_v24
  let main_v26 : FVec F S256 .f32 := Host.absf main_arg6
  let main_cst_6 : FVec F S_ .f32 := constant S_ .f32 0x7F800000#32
  let main_v27 : FVec F S256 .f32 := broadcastInDim S256 ![] bcast_S_S256 main_cst_6
  let main_v28 : IVec S256 1 := cmpf .olt main_v26 main_v27
  (main_v4, main_v7, main_v10, main_v13, main_v16, main_v19, main_v22, main_v25, main_v28)

def fn {F : FTy → Type} [FloatOps F] (main_arg0 : FVec F S8192x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : IVec S8192 32) : IVec S8192 1 × IVec S8191 1 × IVec S8192x256 1 × IVec S256x256 1 × IVec S256 1 × IVec S256x256 1 × IVec S256 1 × IVec S256x256 1 × IVec S256 1 :=
  let main_c : IVec S_ 32 := constantI S_ 32 0#32
  let main_v0 : IVec S8192 32 := broadcastInDim S8192 ![] bcast_S_S8192 main_c
  let main_v1 : IVec S8192 1 := cmpi .sge main_arg9 main_v0
  let main_c_0 : IVec S_ 32 := constantI S_ 32 64#32
  let main_v2 : IVec S8192 32 := broadcastInDim S8192 ![] bcast_S_S8192 main_c_0
  let main_v3 : IVec S8192 1 := cmpi .slt main_arg9 main_v2
  let main_v4 : IVec S8192 1 := andi main_v1 main_v3
  let main_v5 : IVec S8191 32 := (extractStridedSlice S8191 ![0] · slices_S8192_S8191_0) main_arg9
  let main_v6 : IVec S8191 32 := (extractStridedSlice S8191 ![1] · slices_S8192_S8191_1) main_arg9
  let main_v7 : IVec S8191 1 := cmpi .sle main_v5 main_v6
  let main_v8 : FVec F S8192x256 .f32 := Host.absf main_arg0
  let main_cst : FVec F S_ .f32 := constant S_ .f32 0x7F800000#32
  let main_v9 : FVec F S8192x256 .f32 := broadcastInDim S8192x256 ![] bcast_S_S8192x256 main_cst
  let main_v10 : IVec S8192x256 1 := cmpf .olt main_v8 main_v9
  let main_v11 : FVec F S256x256 .f32 := Host.absf main_arg1
  let main_cst_1 : FVec F S_ .f32 := constant S_ .f32 0x7F800000#32
  let main_v12 : FVec F S256x256 .f32 := broadcastInDim S256x256 ![] bcast_S_S256x256 main_cst_1
  let main_v13 : IVec S256x256 1 := cmpf .olt main_v11 main_v12
  let main_v14 : FVec F S256 .f32 := Host.absf main_arg2
  let main_cst_2 : FVec F S_ .f32 := constant S_ .f32 0x7F800000#32
  let main_v15 : FVec F S256 .f32 := broadcastInDim S256 ![] bcast_S_S256 main_cst_2
  let main_v16 : IVec S256 1 := cmpf .olt main_v14 main_v15
  let main_v17 : FVec F S256x256 .f32 := Host.absf main_arg3
  let main_cst_3 : FVec F S_ .f32 := constant S_ .f32 0x7F800000#32
  fn_part1 (F := F) main_arg4 main_arg5 main_arg6 main_v4 main_v7 main_v10 main_v13 main_v16 main_v17 main_cst_3
-- ==== Kernel.lean ====
abbrev S8192x256 : Shape := ⟨2, ![8192, 256]⟩
abbrev S256x256 : Shape := ⟨2, ![256, 256]⟩
abbrev S256 : Shape := ⟨1, ![256]⟩
abbrev S8192 : Shape := ⟨1, ![8192]⟩
abbrev S4x1x2048 : Shape := ⟨3, ![4, 1, 2048]⟩
abbrev S4x2048x1 : Shape := ⟨3, ![4, 2048, 1]⟩
abbrev S1x256 : Shape := ⟨2, ![1, 256]⟩
abbrev S64x512 : Shape := ⟨2, ![64, 512]⟩
abbrev S2048x256 : Shape := ⟨2, ![2048, 256]⟩
abbrev S1x1x2048 : Shape := ⟨3, ![1, 1, 2048]⟩
abbrev S1x2048x1 : Shape := ⟨3, ![1, 2048, 1]⟩
abbrev S8192x1 : Shape := ⟨2, ![8192, 1]⟩
abbrev S64x1x256 : Shape := ⟨3, ![64, 1, 256]⟩
abbrev S64x256 : Shape := ⟨2, ![64, 256]⟩
abbrev S64x1 : Shape := ⟨2, ![64, 1]⟩
abbrev S1 : Shape := ⟨1, ![1]⟩
abbrev S2048 : Shape := ⟨1, ![2048]⟩
abbrev S2048x1 : Shape := ⟨2, ![2048, 1]⟩
abbrev S1x1x1 : Shape := ⟨3, ![1, 1, 1]⟩
abbrev S512x256 : Shape := ⟨2, ![512, 256]⟩
abbrev S2048x512 : Shape := ⟨2, ![2048, 512]⟩
abbrev S1x2048 : Shape := ⟨2, ![1, 2048]⟩
abbrev S64x2048 : Shape := ⟨2, ![64, 2048]⟩
abbrev S64 : Shape := ⟨1, ![64]⟩
abbrev S128x256 : Shape := ⟨2, ![128, 256]⟩
abbrev S128x1 : Shape := ⟨2, ![128, 1]⟩
abbrev S1x1x256 : Shape := ⟨3, ![1, 1, 256]⟩

abbrev nBuf : Space → Nat
  | .hbm => 17
  | .vmem => 23
  | .smem => 2
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S8192, .i32⟩
  | .hbm, ⟨10, _⟩ => ⟨S4x1x2048, .i32⟩
  | .hbm, ⟨11, _⟩ => ⟨S4x2048x1, .i32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S64x512, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1x1x2048, .i32⟩
  | .local _ .vmem, ⟨11, _⟩ => ⟨S1x1x2048, .i32⟩
  | .local _ .vmem, ⟨12, _⟩ => ⟨S1x2048x1, .i32⟩
  | .local _ .vmem, ⟨13, _⟩ => ⟨S1x2048x1, .i32⟩
  | .local _ .vmem, ⟨14, _⟩ => ⟨S64x512, .f32⟩
  | .local _ .vmem, ⟨15, _⟩ => ⟨S8192x256, .bf16⟩
  | .local _ .vmem, ⟨16, _⟩ => ⟨S8192x256, .bf16⟩
  | .local _ .vmem, ⟨17, _⟩ => ⟨S8192x256, .bf16⟩
  | .local _ .vmem, ⟨18, _⟩ => ⟨S8192x1, .f32⟩
  | .local _ .vmem, ⟨19, _⟩ => ⟨S2048x256, .f32⟩
  | .local _ .vmem, ⟨20, _⟩ => ⟨S64x1x256, .f32⟩
  | .local _ .vmem, ⟨21, _⟩ => ⟨S64x256, .f32⟩
  | .local _ .vmem, ⟨22, _⟩ => ⟨S64x1, .f32⟩
  | .local _ .smem, ⟨0, _⟩ => ⟨S8192, .i32⟩
  | .local _ .smem, ⟨1, _⟩ => ⟨S1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_stg11_0 : Ref sig .tc := ⟨.smem, 0, rfl⟩
abbrev cc0_scratch8 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c2048_i32 : BitVec 32 := 2048#32
  let v35 : BitVec 32 := Scalar.muli arg0 c2048_i32
  let v37 : Index := Scalar.indexCast v35
  let c0_18 : Index := 0#32
  ![v37.toNat, 0]
def k0_off2 (i : grid0.Coords) : Fin 2 → Nat :=
  let arg0 : BitVec 32 := BitVec.ofNat 32 (i 0).val
  let c2048_i32 : BitVec 32 := 2048#32
  let v35 : BitVec 32 := Scalar.muli arg0 c2048_i32
  let v44 : Index := Scalar.indexCast v35
  let c0_20 : Index := 0#32
  ![v44.toNat, 0]
def k0_cond3 (i : grid0.Coords) : BitVec 1 :=
  let arg0 : BitVec 32 := BitVec.ofNat 32 (i 0).val
  let c4_i32_2 : BitVec 32 := 4#32
  let v6 : BitVec 1 := Scalar.cmpi .sge arg0 c4_i32_2
  let v7 : BitVec 32 := Scalar.extui v6
  let c0_i32_3 : BitVec 32 := 0#32
  let v8 : BitVec 1 := Scalar.cmpi .ne v7 c0_i32_3
  v8

def k0_off3 (i : grid0.Coords) : Fin 2 → Nat :=
  let arg0 : BitVec 32 := BitVec.ofNat 32 (i 0).val
  let c4_i32_5 : BitVec 32 := 4#32
  let v12 : BitVec 32 := Scalar.subi arg0 c4_i32_5
  let c2048_i32 : BitVec 32 := 2048#32
  let v13 : BitVec 32 := Scalar.muli v12 c2048_i32
  let v14 : Index := Scalar.indexCast v13
  let c0 : Index := 0#32
  ![v14.toNat, 0]
def k0_off4 (i : grid0.Coords) : Fin 2 → Nat :=
  let arg0 : BitVec 32 := BitVec.ofNat 32 (i 0).val
  let c4_i32_5 : BitVec 32 := 4#32
  let v12 : BitVec 32 := Scalar.subi arg0 c4_i32_5
  let c2048_i32 : BitVec 32 := 2048#32
  let v13 : BitVec 32 := Scalar.muli v12 c2048_i32
  let v16 : Index := Scalar.indexCast v13
  let c0_6 : Index := 0#32
  ![v16.toNat, 0]
def k0_off5 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c0_i32_129 : BitVec 32 := 0#32
  let v248 : BitVec 32 := Scalar.addi v245 c0_i32_129
  let v249 : Index := Scalar.indexCast v248
  ![v249.toNat]
def k0_off6 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c0_i32_130 : BitVec 32 := 0#32
  let v251 : BitVec 32 := Scalar.addi v245 c0_i32_130
  let c128_i32 : BitVec 32 := 128#32
  let v252 : BitVec 32 := Scalar.addi v251 c128_i32
  let c1_i32 : BitVec 32 := 1#32
  let v253 : BitVec 32 := Scalar.subi v252 c1_i32
  let v254 : Index := Scalar.indexCast v253
  ![v254.toNat]
@[reducible] def k0_t1_loop (v250 : BitVec 32) (v255 : BitVec 32) : Scf.Loop 32 :=
  let c1_i32_131 : BitVec 32 := 1#32
  let v256 : BitVec 32 := Scalar.addi v255 c1_i32_131
  let v257 : BitVec 32 := Scalar.subi v256 v250
  let c1_i32_133 : BitVec 32 := 1#32
  let v259 : BitVec 32 := Scalar.divsi v257 c1_i32_133
  let v260 : BitVec 32 := Scalar.muli v259 c1_i32_133
  let v261 : BitVec 32 := Scalar.addi v250 v260
  let c1_i32_134 : BitVec 32 := 1#32
  ⟨v250, v261, c1_i32_134⟩

def k0_off7 (v250 : BitVec 32) (v255 : BitVec 32) (k0_t1 : Fin (k0_t1_loop v250 v255).trips) : Fin 3 → Nat :=
  let c1_i32_134 : BitVec 32 := 1#32
  let arg23 : BitVec 32 := Scf.iv v250 c1_i32_134 k0_t1
  let v510 : Index := Scalar.indexCast arg23
  let c0_259 : Index := 0#32
  let c0_260 : Index := 0#32
  ![v510.toNat, 0, 0]
@[reducible] def k0_t2_loop (v250 : BitVec 32) (v255 : BitVec 32) : Scf.Loop 32 :=
  let c1_i32_131 : BitVec 32 := 1#32
  let v256 : BitVec 32 := Scalar.addi v255 c1_i32_131
  let v257 : BitVec 32 := Scalar.subi v256 v250
  let c1_i32_133 : BitVec 32 := 1#32
  let v259 : BitVec 32 := Scalar.divsi v257 c1_i32_133
  let v260 : BitVec 32 := Scalar.muli v259 c1_i32_133
  let v261 : BitVec 32 := Scalar.addi v250 v260
  let v258 : BitVec 32 := Scalar.addi v250 v257
  let c1_i32_135 : BitVec 32 := 1#32
  ⟨v261, v258, c1_i32_135⟩
def k0_off8 (v250 : BitVec 32) (v255 : BitVec 32) (k0_t2 : Fin (k0_t2_loop v250 v255).trips) : Fin 3 → Nat :=
  let c1_i32_131 : BitVec 32 := 1#32
  let v256 : BitVec 32 := Scalar.addi v255 c1_i32_131
  let v257 : BitVec 32 := Scalar.subi v256 v250
  let c1_i32_133 : BitVec 32 := 1#32
  let v259 : BitVec 32 := Scalar.divsi v257 c1_i32_133
  let v260 : BitVec 32 := Scalar.muli v259 c1_i32_133
  let v261 : BitVec 32 := Scalar.addi v250 v260
  let c1_i32_135 : BitVec 32 := 1#32
  let arg23 : BitVec 32 := Scf.iv v261 c1_i32_135 k0_t2
  let v510 : Index := Scalar.indexCast arg23
  let c0_259 : Index := 0#32
  let c0_260 : Index := 0#32
  ![v510.toNat, 0, 0]

def k0_chk1 (i : grid0.Coords) (v250 : BitVec 32) (v255 : BitVec 32) : Prop :=
  (∀ (k0_h3 : k0_cond3 i = 1#1), (k0_t1_loop v250 v255).OK) ∧
  (∀ k0_t1 : Fin (k0_t1_loop v250 v255).trips, ∀ (k0_h3 : k0_cond3 i = 1#1), ∀ a, (k0_off7 v250 v255 k0_t1) a + S1x1x256.size a ≤ S64x1x256.size a) ∧
  (∀ (k0_h3 : k0_cond3 i = 1#1), (k0_t2_loop v250 v255).OK) ∧
  (∀ k0_t2 : Fin (k0_t2_loop v250 v255).trips, ∀ (k0_h3 : k0_cond3 i = 1#1), ∀ a, (k0_off8 v250 v255 k0_t2) a + S1x1x256.size a ≤ S64x1x256.size a)
theorem k0_t1_ok : ∀ (i : grid0.Coords) (v250 : BitVec 32) (v255 : BitVec 32) (k0_hw1 : k0_chk1 i v250 v255), ∀ (k0_h3 : k0_cond3 i = 1#1), (k0_t1_loop v250 v255).OK := fun i v250 v255 k0_hw1 k0_h3 => k0_hw1.1 k0_h3
theorem k0_off7_inb : ∀ (i : grid0.Coords) (v250 : BitVec 32) (v255 : BitVec 32) (k0_hw1 : k0_chk1 i v250 v255) (k0_t1 : Fin (k0_t1_loop v250 v255).trips), ∀ (k0_h3 : k0_cond3 i = 1#1), ∀ a, (k0_off7 v250 v255 k0_t1) a + S1x1x256.size a ≤ S64x1x256.size a := fun i v250 v255 k0_hw1 k0_t1 k0_h3 => k0_hw1.2.1 k0_t1 k0_h3
theorem k0_t2_ok : ∀ (i : grid0.Coords) (v250 : BitVec 32) (v255 : BitVec 32) (k0_hw1 : k0_chk1 i v250 v255), ∀ (k0_h3 : k0_cond3 i = 1#1), (k0_t2_loop v250 v255).OK := fun i v250 v255 k0_hw1 k0_h3 => k0_hw1.2.2.1 k0_h3
theorem k0_off8_inb : ∀ (i : grid0.Coords) (v250 : BitVec 32) (v255 : BitVec 32) (k0_hw1 : k0_chk1 i v250 v255) (k0_t2 : Fin (k0_t2_loop v250 v255).trips), ∀ (k0_h3 : k0_cond3 i = 1#1), ∀ a, (k0_off8 v250 v255 k0_t2) a + S1x1x256.size a ≤ S64x1x256.size a := fun i v250 v255 k0_hw1 k0_t2 k0_h3 => k0_hw1.2.2.2 k0_t2 k0_h3

def k0_off9 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c128_i32_136 : BitVec 32 := 128#32
  let v264 : BitVec 32 := Scalar.addi v245 c128_i32_136
  let v265 : Index := Scalar.indexCast v264
  ![v265.toNat]
def k0_off10 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c128_i32_137 : BitVec 32 := 128#32
  let v267 : BitVec 32 := Scalar.addi v245 c128_i32_137
  let c128_i32_138 : BitVec 32 := 128#32
  let v268 : BitVec 32 := Scalar.addi v267 c128_i32_138
  let c1_i32_139 : BitVec 32 := 1#32
  let v269 : BitVec 32 := Scalar.subi v268 c1_i32_139
  let v270 : Index := Scalar.indexCast v269
  ![v270.toNat]
@[reducible] def k0_t3_loop (v266 : BitVec 32) (v271 : BitVec 32) : Scf.Loop 32 :=
  let c1_i32_140 : BitVec 32 := 1#32
  let v272 : BitVec 32 := Scalar.addi v271 c1_i32_140
  let v273 : BitVec 32 := Scalar.subi v272 v266
  let c1_i32_142 : BitVec 32 := 1#32
  let v275 : BitVec 32 := Scalar.divsi v273 c1_i32_142
  let v276 : BitVec 32 := Scalar.muli v275 c1_i32_142
  let v277 : BitVec 32 := Scalar.addi v266 v276
  let c1_i32_143 : BitVec 32 := 1#32
  ⟨v266, v277, c1_i32_143⟩

def k0_off11 (v266 : BitVec 32) (v271 : BitVec 32) (k0_t3 : Fin (k0_t3_loop v266 v271).trips) : Fin 3 → Nat :=
  let c1_i32_143 : BitVec 32 := 1#32
  let arg23 : BitVec 32 := Scf.iv v266 c1_i32_143 k0_t3
  let v510 : Index := Scalar.indexCast arg23
  let c0_259 : Index := 0#32
  let c0_260 : Index := 0#32
  ![v510.toNat, 0, 0]
@[reducible] def k0_t4_loop (v266 : BitVec 32) (v271 : BitVec 32) : Scf.Loop 32 :=
  let c1_i32_140 : BitVec 32 := 1#32
  let v272 : BitVec 32 := Scalar.addi v271 c1_i32_140
  let v273 : BitVec 32 := Scalar.subi v272 v266
  let c1_i32_142 : BitVec 32 := 1#32
  let v275 : BitVec 32 := Scalar.divsi v273 c1_i32_142
  let v276 : BitVec 32 := Scalar.muli v275 c1_i32_142
  let v277 : BitVec 32 := Scalar.addi v266 v276
  let v274 : BitVec 32 := Scalar.addi v266 v273
  let c1_i32_144 : BitVec 32 := 1#32
  ⟨v277, v274, c1_i32_144⟩
def k0_off12 (v266 : BitVec 32) (v271 : BitVec 32) (k0_t4 : Fin (k0_t4_loop v266 v271).trips) : Fin 3 → Nat :=
  let c1_i32_140 : BitVec 32 := 1#32
  let v272 : BitVec 32 := Scalar.addi v271 c1_i32_140
  let v273 : BitVec 32 := Scalar.subi v272 v266
  let c1_i32_142 : BitVec 32 := 1#32
  let v275 : BitVec 32 := Scalar.divsi v273 c1_i32_142
  let v276 : BitVec 32 := Scalar.muli v275 c1_i32_142
  let v277 : BitVec 32 := Scalar.addi v266 v276
  let c1_i32_144 : BitVec 32 := 1#32
  let arg23 : BitVec 32 := Scf.iv v277 c1_i32_144 k0_t4
  let v510 : Index := Scalar.indexCast arg23
  let c0_259 : Index := 0#32
  let c0_260 : Index := 0#32
  ![v510.toNat, 0, 0]

def k0_chk2 (i : grid0.Coords) (v266 : BitVec 32) (v271 : BitVec 32) : Prop :=
  (∀ (k0_h3 : k0_cond3 i = 1#1), (k0_t3_loop v266 v271).OK) ∧
  (∀ k0_t3 : Fin (k0_t3_loop v266 v271).trips, ∀ (k0_h3 : k0_cond3 i = 1#1), ∀ a, (k0_off11 v266 v271 k0_t3) a + S1x1x256.size a ≤ S64x1x256.size a) ∧
  (∀ (k0_h3 : k0_cond3 i = 1#1), (k0_t4_loop v266 v271).OK) ∧
  (∀ k0_t4 : Fin (k0_t4_loop v266 v271).trips, ∀ (k0_h3 : k0_cond3 i = 1#1), ∀ a, (k0_off12 v266 v271 k0_t4) a + S1x1x256.size a ≤ S64x1x256.size a)
theorem k0_t3_ok : ∀ (i : grid0.Coords) (v266 : BitVec 32) (v271 : BitVec 32) (k0_hw2 : k0_chk2 i v266 v271), ∀ (k0_h3 : k0_cond3 i = 1#1), (k0_t3_loop v266 v271).OK := fun i v266 v271 k0_hw2 k0_h3 => k0_hw2.1 k0_h3
theorem k0_off11_inb : ∀ (i : grid0.Coords) (v266 : BitVec 32) (v271 : BitVec 32) (k0_hw2 : k0_chk2 i v266 v271) (k0_t3 : Fin (k0_t3_loop v266 v271).trips), ∀ (k0_h3 : k0_cond3 i = 1#1), ∀ a, (k0_off11 v266 v271 k0_t3) a + S1x1x256.size a ≤ S64x1x256.size a := fun i v266 v271 k0_hw2 k0_t3 k0_h3 => k0_hw2.2.1 k0_t3 k0_h3
theorem k0_t4_ok : ∀ (i : grid0.Coords) (v266 : BitVec 32) (v271 : BitVec 32) (k0_hw2 : k0_chk2 i v266 v271), ∀ (k0_h3 : k0_cond3 i = 1#1), (k0_t4_loop v266 v271).OK := fun i v266 v271 k0_hw2 k0_h3 => k0_hw2.2.2.1 k0_h3
theorem k0_off12_inb : ∀ (i : grid0.Coords) (v266 : BitVec 32) (v271 : BitVec 32) (k0_hw2 : k0_chk2 i v266 v271) (k0_t4 : Fin (k0_t4_loop v266 v271).trips), ∀ (k0_h3 : k0_cond3 i = 1#1), ∀ a, (k0_off12 v266 v271 k0_t4) a + S1x1x256.size a ≤ S64x1x256.size a := fun i v266 v271 k0_hw2 k0_t4 k0_h3 => k0_hw2.2.2.2 k0_t4 k0_h3

def k0_off13 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c256_i32 : BitVec 32 := 256#32
  let v280 : BitVec 32 := Scalar.addi v245 c256_i32
  let v281 : Index := Scalar.indexCast v280
  ![v281.toNat]
def k0_off14 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c256_i32_145 : BitVec 32 := 256#32
  let v283 : BitVec 32 := Scalar.addi v245 c256_i32_145
  let c128_i32_146 : BitVec 32 := 128#32
  let v284 : BitVec 32 := Scalar.addi v283 c128_i32_146
  let c1_i32_147 : BitVec 32 := 1#32
  let v285 : BitVec 32 := Scalar.subi v284 c1_i32_147
  let v286 : Index := Scalar.indexCast v285
  ![v286.toNat]
@[reducible] def k0_t5_loop (v282 : BitVec 32) (v287 : BitVec 32) : Scf.Loop 32 :=
  let c1_i32_148 : BitVec 32 := 1#32
  let v288 : BitVec 32 := Scalar.addi v287 c1_i32_148
  let v289 : BitVec 32 := Scalar.subi v288 v282
  let c1_i32_150 : BitVec 32 := 1#32
  let v291 : BitVec 32 := Scalar.divsi v289 c1_i32_150
  let v292 : BitVec 32 := Scalar.muli v291 c1_i32_150
  let v293 : BitVec 32 := Scalar.addi v282 v292
  let c1_i32_151 : BitVec 32 := 1#32
  ⟨v282, v293, c1_i32_151⟩

def k0_off15 (v282 : BitVec 32) (v287 : BitVec 32) (k0_t5 : Fin (k0_t5_loop v282 v287).trips) : Fin 3 → Nat :=
  let c1_i32_151 : BitVec 32 := 1#32
  let arg23 : BitVec 32 := Scf.iv v282 c1_i32_151 k0_t5
  let v510 : Index := Scalar.indexCast arg23
  let c0_259 : Index := 0#32
  let c0_260 : Index := 0#32
  ![v510.toNat, 0, 0]
@[reducible] def k0_t6_loop (v282 : BitVec 32) (v287 : BitVec 32) : Scf.Loop 32 :=
  let c1_i32_148 : BitVec 32 := 1#32
  let v288 : BitVec 32 := Scalar.addi v287 c1_i32_148
  let v289 : BitVec 32 := Scalar.subi v288 v282
  let c1_i32_150 : BitVec 32 := 1#32
  let v291 : BitVec 32 := Scalar.divsi v289 c1_i32_150
  let v292 : BitVec 32 := Scalar.muli v291 c1_i32_150
  let v293 : BitVec 32 := Scalar.addi v282 v292
  let v290 : BitVec 32 := Scalar.addi v282 v289
  let c1_i32_152 : BitVec 32 := 1#32
  ⟨v293, v290, c1_i32_152⟩
def k0_off16 (v282 : BitVec 32) (v287 : BitVec 32) (k0_t6 : Fin (k0_t6_loop v282 v287).trips) : Fin 3 → Nat :=
  let c1_i32_148 : BitVec 32 := 1#32
  let v288 : BitVec 32 := Scalar.addi v287 c1_i32_148
  let v289 : BitVec 32 := Scalar.subi v288 v282
  let c1_i32_150 : BitVec 32 := 1#32
  let v291 : BitVec 32 := Scalar.divsi v289 c1_i32_150
  let v292 : BitVec 32 := Scalar.muli v291 c1_i32_150
  let v293 : BitVec 32 := Scalar.addi v282 v292
  let c1_i32_152 : BitVec 32 := 1#32
  let arg23 : BitVec 32 := Scf.iv v293 c1_i32_152 k0_t6
  let v510 : Index := Scalar.indexCast arg23
  let c0_259 : Index := 0#32
  let c0_260 : Index := 0#32
  ![v510.toNat, 0, 0]

def k0_chk3 (i : grid0.Coords) (v282 : BitVec 32) (v287 : BitVec 32) : Prop :=
  (∀ (k0_h3 : k0_cond3 i = 1#1), (k0_t5_loop v282 v287).OK) ∧
  (∀ k0_t5 : Fin (k0_t5_loop v282 v287).trips, ∀ (k0_h3 : k0_cond3 i = 1#1), ∀ a, (k0_off15 v282 v287 k0_t5) a + S1x1x256.size a ≤ S64x1x256.size a) ∧
  (∀ (k0_h3 : k0_cond3 i = 1#1), (k0_t6_loop v282 v287).OK) ∧
  (∀ k0_t6 : Fin (k0_t6_loop v282 v287).trips, ∀ (k0_h3 : k0_cond3 i = 1#1), ∀ a, (k0_off16 v282 v287 k0_t6) a + S1x1x256.size a ≤ S64x1x256.size a)
theorem k0_t5_ok : ∀ (i : grid0.Coords) (v282 : BitVec 32) (v287 : BitVec 32) (k0_hw3 : k0_chk3 i v282 v287), ∀ (k0_h3 : k0_cond3 i = 1#1), (k0_t5_loop v282 v287).OK := fun i v282 v287 k0_hw3 k0_h3 => k0_hw3.1 k0_h3
theorem k0_off15_inb : ∀ (i : grid0.Coords) (v282 : BitVec 32) (v287 : BitVec 32) (k0_hw3 : k0_chk3 i v282 v287) (k0_t5 : Fin (k0_t5_loop v282 v287).trips), ∀ (k0_h3 : k0_cond3 i = 1#1), ∀ a, (k0_off15 v282 v287 k0_t5) a + S1x1x256.size a ≤ S64x1x256.size a := fun i v282 v287 k0_hw3 k0_t5 k0_h3 => k0_hw3.2.1 k0_t5 k0_h3
theorem k0_t6_ok : ∀ (i : grid0.Coords) (v282 : BitVec 32) (v287 : BitVec 32) (k0_hw3 : k0_chk3 i v282 v287), ∀ (k0_h3 : k0_cond3 i = 1#1), (k0_t6_loop v282 v287).OK := fun i v282 v287 k0_hw3 k0_h3 => k0_hw3.2.2.1 k0_h3
theorem k0_off16_inb : ∀ (i : grid0.Coords) (v282 : BitVec 32) (v287 : BitVec 32) (k0_hw3 : k0_chk3 i v282 v287) (k0_t6 : Fin (k0_t6_loop v282 v287).trips), ∀ (k0_h3 : k0_cond3 i = 1#1), ∀ a, (k0_off16 v282 v287 k0_t6) a + S1x1x256.size a ≤ S64x1x256.size a := fun i v282 v287 k0_hw3 k0_t6 k0_h3 => k0_hw3.2.2.2 k0_t6 k0_h3

def k0_off17 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c384_i32 : BitVec 32 := 384#32
  let v296 : BitVec 32 := Scalar.addi v245 c384_i32
  let v297 : Index := Scalar.indexCast v296
  ![v297.toNat]
def k0_off18 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c384_i32_153 : BitVec 32 := 384#32
  let v299 : BitVec 32 := Scalar.addi v245 c384_i32_153
  let c128_i32_154 : BitVec 32 := 128#32
  let v300 : BitVec 32 := Scalar.addi v299 c128_i32_154
  let c1_i32_155 : BitVec 32 := 1#32
  let v301 : BitVec 32 := Scalar.subi v300 c1_i32_155
  let v302 : Index := Scalar.indexCast v301
  ![v302.toNat]
@[reducible] def k0_t7_loop (v298 : BitVec 32) (v303 : BitVec 32) : Scf.Loop 32 :=
  let c1_i32_156 : BitVec 32 := 1#32
  let v304 : BitVec 32 := Scalar.addi v303 c1_i32_156
  let v305 : BitVec 32 := Scalar.subi v304 v298
  let c1_i32_158 : BitVec 32 := 1#32
  let v307 : BitVec 32 := Scalar.divsi v305 c1_i32_158
  let v308 : BitVec 32 := Scalar.muli v307 c1_i32_158
  let v309 : BitVec 32 := Scalar.addi v298 v308
  let c1_i32_159 : BitVec 32 := 1#32
  ⟨v298, v309, c1_i32_159⟩

def k0_off19 (v298 : BitVec 32) (v303 : BitVec 32) (k0_t7 : Fin (k0_t7_loop v298 v303).trips) : Fin 3 → Nat :=
  let c1_i32_159 : BitVec 32 := 1#32
  let arg23 : BitVec 32 := Scf.iv v298 c1_i32_159 k0_t7
  let v510 : Index := Scalar.indexCast arg23
  let c0_259 : Index := 0#32
  let c0_260 : Index := 0#32
  ![v510.toNat, 0, 0]
@[reducible] def k0_t8_loop (v298 : BitVec 32) (v303 : BitVec 32) : Scf.Loop 32 :=
  let c1_i32_156 : BitVec 32 := 1#32
  let v304 : BitVec 32 := Scalar.addi v303 c1_i32_156
  let v305 : BitVec 32 := Scalar.subi v304 v298
  let c1_i32_158 : BitVec 32 := 1#32
  let v307 : BitVec 32 := Scalar.divsi v305 c1_i32_158
  let v308 : BitVec 32 := Scalar.muli v307 c1_i32_158
  let v309 : BitVec 32 := Scalar.addi v298 v308
  let v306 : BitVec 32 := Scalar.addi v298 v305
  let c1_i32_160 : BitVec 32 := 1#32
  ⟨v309, v306, c1_i32_160⟩
def k0_off20 (v298 : BitVec 32) (v303 : BitVec 32) (k0_t8 : Fin (k0_t8_loop v298 v303).trips) : Fin 3 → Nat :=
  let c1_i32_156 : BitVec 32 := 1#32
  let v304 : BitVec 32 := Scalar.addi v303 c1_i32_156
  let v305 : BitVec 32 := Scalar.subi v304 v298
  let c1_i32_158 : BitVec 32 := 1#32
  let v307 : BitVec 32 := Scalar.divsi v305 c1_i32_158
  let v308 : BitVec 32 := Scalar.muli v307 c1_i32_158
  let v309 : BitVec 32 := Scalar.addi v298 v308
  let c1_i32_160 : BitVec 32 := 1#32
  let arg23 : BitVec 32 := Scf.iv v309 c1_i32_160 k0_t8
  let v510 : Index := Scalar.indexCast arg23
  let c0_259 : Index := 0#32
  let c0_260 : Index := 0#32
  ![v510.toNat, 0, 0]

def k0_chk4 (i : grid0.Coords) (v298 : BitVec 32) (v303 : BitVec 32) : Prop :=
  (∀ (k0_h3 : k0_cond3 i = 1#1), (k0_t7_loop v298 v303).OK) ∧
  (∀ k0_t7 : Fin (k0_t7_loop v298 v303).trips, ∀ (k0_h3 : k0_cond3 i = 1#1), ∀ a, (k0_off19 v298 v303 k0_t7) a + S1x1x256.size a ≤ S64x1x256.size a) ∧
  (∀ (k0_h3 : k0_cond3 i = 1#1), (k0_t8_loop v298 v303).OK) ∧
  (∀ k0_t8 : Fin (k0_t8_loop v298 v303).trips, ∀ (k0_h3 : k0_cond3 i = 1#1), ∀ a, (k0_off20 v298 v303 k0_t8) a + S1x1x256.size a ≤ S64x1x256.size a)
theorem k0_t7_ok : ∀ (i : grid0.Coords) (v298 : BitVec 32) (v303 : BitVec 32) (k0_hw4 : k0_chk4 i v298 v303), ∀ (k0_h3 : k0_cond3 i = 1#1), (k0_t7_loop v298 v303).OK := fun i v298 v303 k0_hw4 k0_h3 => k0_hw4.1 k0_h3
theorem k0_off19_inb : ∀ (i : grid0.Coords) (v298 : BitVec 32) (v303 : BitVec 32) (k0_hw4 : k0_chk4 i v298 v303) (k0_t7 : Fin (k0_t7_loop v298 v303).trips), ∀ (k0_h3 : k0_cond3 i = 1#1), ∀ a, (k0_off19 v298 v303 k0_t7) a + S1x1x256.size a ≤ S64x1x256.size a := fun i v298 v303 k0_hw4 k0_t7 k0_h3 => k0_hw4.2.1 k0_t7 k0_h3
theorem k0_t8_ok : ∀ (i : grid0.Coords) (v298 : BitVec 32) (v303 : BitVec 32) (k0_hw4 : k0_chk4 i v298 v303), ∀ (k0_h3 : k0_cond3 i = 1#1), (k0_t8_loop v298 v303).OK := fun i v298 v303 k0_hw4 k0_h3 => k0_hw4.2.2.1 k0_h3
theorem k0_off20_inb : ∀ (i : grid0.Coords) (v298 : BitVec 32) (v303 : BitVec 32) (k0_hw4 : k0_chk4 i v298 v303) (k0_t8 : Fin (k0_t8_loop v298 v303).trips), ∀ (k0_h3 : k0_cond3 i = 1#1), ∀ a, (k0_off20 v298 v303 k0_t8) a + S1x1x256.size a ≤ S64x1x256.size a := fun i v298 v303 k0_hw4 k0_t8 k0_h3 => k0_hw4.2.2.2 k0_t8 k0_h3

def k0_off21 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c512_i32 : BitVec 32 := 512#32
  let v312 : BitVec 32 := Scalar.addi v245 c512_i32
  let v313 : Index := Scalar.indexCast v312
  ![v313.toNat]
def k0_off22 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c512_i32_161 : BitVec 32 := 512#32
  let v315 : BitVec 32 := Scalar.addi v245 c512_i32_161
  let c128_i32_162 : BitVec 32 := 128#32
  let v316 : BitVec 32 := Scalar.addi v315 c128_i32_162
  let c1_i32_163 : BitVec 32 := 1#32
  let v317 : BitVec 32 := Scalar.subi v316 c1_i32_163
  let v318 : Index := Scalar.indexCast v317
  ![v318.toNat]
@[reducible] def k0_t9_loop (v314 : BitVec 32) (v319 : BitVec 32) : Scf.Loop 32 :=
  let c1_i32_164 : BitVec 32 := 1#32
  let v320 : BitVec 32 := Scalar.addi v319 c1_i32_164
  let v321 : BitVec 32 := Scalar.subi v320 v314
  let c1_i32_166 : BitVec 32 := 1#32
  let v323 : BitVec 32 := Scalar.divsi v321 c1_i32_166
  let v324 : BitVec 32 := Scalar.muli v323 c1_i32_166
  let v325 : BitVec 32 := Scalar.addi v314 v324
  let c1_i32_167 : BitVec 32 := 1#32
  ⟨v314, v325, c1_i32_167⟩

def k0_off23 (v314 : BitVec 32) (v319 : BitVec 32) (k0_t9 : Fin (k0_t9_loop v314 v319).trips) : Fin 3 → Nat :=
  let c1_i32_167 : BitVec 32 := 1#32
  let arg23 : BitVec 32 := Scf.iv v314 c1_i32_167 k0_t9
  let v510 : Index := Scalar.indexCast arg23
  let c0_259 : Index := 0#32
  let c0_260 : Index := 0#32
  ![v510.toNat, 0, 0]
@[reducible] def k0_t10_loop (v314 : BitVec 32) (v319 : BitVec 32) : Scf.Loop 32 :=
  let c1_i32_164 : BitVec 32 := 1#32
  let v320 : BitVec 32 := Scalar.addi v319 c1_i32_164
  let v321 : BitVec 32 := Scalar.subi v320 v314
  let c1_i32_166 : BitVec 32 := 1#32
  let v323 : BitVec 32 := Scalar.divsi v321 c1_i32_166
  let v324 : BitVec 32 := Scalar.muli v323 c1_i32_166
  let v325 : BitVec 32 := Scalar.addi v314 v324
  let v322 : BitVec 32 := Scalar.addi v314 v321
  let c1_i32_168 : BitVec 32 := 1#32
  ⟨v325, v322, c1_i32_168⟩
def k0_off24 (v314 : BitVec 32) (v319 : BitVec 32) (k0_t10 : Fin (k0_t10_loop v314 v319).trips) : Fin 3 → Nat :=
  let c1_i32_164 : BitVec 32 := 1#32
  let v320 : BitVec 32 := Scalar.addi v319 c1_i32_164
  let v321 : BitVec 32 := Scalar.subi v320 v314
  let c1_i32_166 : BitVec 32 := 1#32
  let v323 : BitVec 32 := Scalar.divsi v321 c1_i32_166
  let v324 : BitVec 32 := Scalar.muli v323 c1_i32_166
  let v325 : BitVec 32 := Scalar.addi v314 v324
  let c1_i32_168 : BitVec 32 := 1#32
  let arg23 : BitVec 32 := Scf.iv v325 c1_i32_168 k0_t10
  let v510 : Index := Scalar.indexCast arg23
  let c0_259 : Index := 0#32
  let c0_260 : Index := 0#32
  ![v510.toNat, 0, 0]

def k0_chk5 (i : grid0.Coords) (v314 : BitVec 32) (v319 : BitVec 32) : Prop :=
  (∀ (k0_h3 : k0_cond3 i = 1#1), (k0_t9_loop v314 v319).OK) ∧
  (∀ k0_t9 : Fin (k0_t9_loop v314 v319).trips, ∀ (k0_h3 : k0_cond3 i = 1#1), ∀ a, (k0_off23 v314 v319 k0_t9) a + S1x1x256.size a ≤ S64x1x256.size a) ∧
  (∀ (k0_h3 : k0_cond3 i = 1#1), (k0_t10_loop v314 v319).OK) ∧
  (∀ k0_t10 : Fin (k0_t10_loop v314 v319).trips, ∀ (k0_h3 : k0_cond3 i = 1#1), ∀ a, (k0_off24 v314 v319 k0_t10) a + S1x1x256.size a ≤ S64x1x256.size a)
theorem k0_t9_ok : ∀ (i : grid0.Coords) (v314 : BitVec 32) (v319 : BitVec 32) (k0_hw5 : k0_chk5 i v314 v319), ∀ (k0_h3 : k0_cond3 i = 1#1), (k0_t9_loop v314 v319).OK := fun i v314 v319 k0_hw5 k0_h3 => k0_hw5.1 k0_h3
theorem k0_off23_inb : ∀ (i : grid0.Coords) (v314 : BitVec 32) (v319 : BitVec 32) (k0_hw5 : k0_chk5 i v314 v319) (k0_t9 : Fin (k0_t9_loop v314 v319).trips), ∀ (k0_h3 : k0_cond3 i = 1#1), ∀ a, (k0_off23 v314 v319 k0_t9) a + S1x1x256.size a ≤ S64x1x256.size a := fun i v314 v319 k0_hw5 k0_t9 k0_h3 => k0_hw5.2.1 k0_t9 k0_h3
theorem k0_t10_ok : ∀ (i : grid0.Coords) (v314 : BitVec 32) (v319 : BitVec 32) (k0_hw5 : k0_chk5 i v314 v319), ∀ (k0_h3 : k0_cond3 i = 1#1), (k0_t10_loop v314 v319).OK := fun i v314 v319 k0_hw5 k0_h3 => k0_hw5.2.2.1 k0_h3
theorem k0_off24_inb : ∀ (i : grid0.Coords) (v314 : BitVec 32) (v319 : BitVec 32) (k0_hw5 : k0_chk5 i v314 v319) (k0_t10 : Fin (k0_t10_loop v314 v319).trips), ∀ (k0_h3 : k0_cond3 i = 1#1), ∀ a, (k0_off24 v314 v319 k0_t10) a + S1x1x256.size a ≤ S64x1x256.size a := fun i v314 v319 k0_hw5 k0_t10 k0_h3 => k0_hw5.2.2.2 k0_t10 k0_h3

def k0_off25 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c640_i32 : BitVec 32 := 640#32
  let v328 : BitVec 32 := Scalar.addi v245 c640_i32
  let v329 : Index := Scalar.indexCast v328
  ![v329.toNat]
def k0_off26 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c640_i32_169 : BitVec 32 := 640#32
  let v331 : BitVec 32 := Scalar.addi v245 c640_i32_169
  let c128_i32_170 : BitVec 32 := 128#32
  let v332 : BitVec 32 := Scalar.addi v331 c128_i32_170
  let c1_i32_171 : BitVec 32 := 1#32
  let v333 : BitVec 32 := Scalar.subi v332 c1_i32_171
  let v334 : Index := Scalar.indexCast v333
  ![v334.toNat]
@[reducible] def k0_t11_loop (v330 : BitVec 32) (v335 : BitVec 32) : Scf.Loop 32 :=
  let c1_i32_172 : BitVec 32 := 1#32
  let v336 : BitVec 32 := Scalar.addi v335 c1_i32_172
  let v337 : BitVec 32 := Scalar.subi v336 v330
  let c1_i32_174 : BitVec 32 := 1#32
  let v339 : BitVec 32 := Scalar.divsi v337 c1_i32_174
  let v340 : BitVec 32 := Scalar.muli v339 c1_i32_174
  let v341 : BitVec 32 := Scalar.addi v330 v340
  let c1_i32_175 : BitVec 32 := 1#32
  ⟨v330, v341, c1_i32_175⟩

def k0_off27 (v330 : BitVec 32) (v335 : BitVec 32) (k0_t11 : Fin (k0_t11_loop v330 v335).trips) : Fin 3 → Nat :=
  let c1_i32_175 : BitVec 32 := 1#32
  let arg23 : BitVec 32 := Scf.iv v330 c1_i32_175 k0_t11
  let v510 : Index := Scalar.indexCast arg23
  let c0_259 : Index := 0#32
  let c0_260 : Index := 0#32
  ![v510.toNat, 0, 0]
@[reducible] def k0_t12_loop (v330 : BitVec 32) (v335 : BitVec 32) : Scf.Loop 32 :=
  let c1_i32_172 : BitVec 32 := 1#32
  let v336 : BitVec 32 := Scalar.addi v335 c1_i32_172
  let v337 : BitVec 32 := Scalar.subi v336 v330
  let c1_i32_174 : BitVec 32 := 1#32
  let v339 : BitVec 32 := Scalar.divsi v337 c1_i32_174
  let v340 : BitVec 32 := Scalar.muli v339 c1_i32_174
  let v341 : BitVec 32 := Scalar.addi v330 v340
  let v338 : BitVec 32 := Scalar.addi v330 v337
  let c1_i32_176 : BitVec 32 := 1#32
  ⟨v341, v338, c1_i32_176⟩
def k0_off28 (v330 : BitVec 32) (v335 : BitVec 32) (k0_t12 : Fin (k0_t12_loop v330 v335).trips) : Fin 3 → Nat :=
  let c1_i32_172 : BitVec 32 := 1#32
  let v336 : BitVec 32 := Scalar.addi v335 c1_i32_172
  let v337 : BitVec 32 := Scalar.subi v336 v330
  let c1_i32_174 : BitVec 32 := 1#32
  let v339 : BitVec 32 := Scalar.divsi v337 c1_i32_174
  let v340 : BitVec 32 := Scalar.muli v339 c1_i32_174
  let v341 : BitVec 32 := Scalar.addi v330 v340
  let c1_i32_176 : BitVec 32 := 1#32
  let arg23 : BitVec 32 := Scf.iv v341 c1_i32_176 k0_t12
  let v510 : Index := Scalar.indexCast arg23
  let c0_259 : Index := 0#32
  let c0_260 : Index := 0#32
  ![v510.toNat, 0, 0]

def k0_chk6 (i : grid0.Coords) (v330 : BitVec 32) (v335 : BitVec 32) : Prop :=
  (∀ (k0_h3 : k0_cond3 i = 1#1), (k0_t11_loop v330 v335).OK) ∧
  (∀ k0_t11 : Fin (k0_t11_loop v330 v335).trips, ∀ (k0_h3 : k0_cond3 i = 1#1), ∀ a, (k0_off27 v330 v335 k0_t11) a + S1x1x256.size a ≤ S64x1x256.size a) ∧
  (∀ (k0_h3 : k0_cond3 i = 1#1), (k0_t12_loop v330 v335).OK) ∧
  (∀ k0_t12 : Fin (k0_t12_loop v330 v335).trips, ∀ (k0_h3 : k0_cond3 i = 1#1), ∀ a, (k0_off28 v330 v335 k0_t12) a + S1x1x256.size a ≤ S64x1x256.size a)
theorem k0_t11_ok : ∀ (i : grid0.Coords) (v330 : BitVec 32) (v335 : BitVec 32) (k0_hw6 : k0_chk6 i v330 v335), ∀ (k0_h3 : k0_cond3 i = 1#1), (k0_t11_loop v330 v335).OK := fun i v330 v335 k0_hw6 k0_h3 => k0_hw6.1 k0_h3
theorem k0_off27_inb : ∀ (i : grid0.Coords) (v330 : BitVec 32) (v335 : BitVec 32) (k0_hw6 : k0_chk6 i v330 v335) (k0_t11 : Fin (k0_t11_loop v330 v335).trips), ∀ (k0_h3 : k0_cond3 i = 1#1), ∀ a, (k0_off27 v330 v335 k0_t11) a + S1x1x256.size a ≤ S64x1x256.size a := fun i v330 v335 k0_hw6 k0_t11 k0_h3 => k0_hw6.2.1 k0_t11 k0_h3
theorem k0_t12_ok : ∀ (i : grid0.Coords) (v330 : BitVec 32) (v335 : BitVec 32) (k0_hw6 : k0_chk6 i v330 v335), ∀ (k0_h3 : k0_cond3 i = 1#1), (k0_t12_loop v330 v335).OK := fun i v330 v335 k0_hw6 k0_h3 => k0_hw6.2.2.1 k0_h3
theorem k0_off28_inb : ∀ (i : grid0.Coords) (v330 : BitVec 32) (v335 : BitVec 32) (k0_hw6 : k0_chk6 i v330 v335) (k0_t12 : Fin (k0_t12_loop v330 v335).trips), ∀ (k0_h3 : k0_cond3 i = 1#1), ∀ a, (k0_off28 v330 v335 k0_t12) a + S1x1x256.size a ≤ S64x1x256.size a := fun i v330 v335 k0_hw6 k0_t12 k0_h3 => k0_hw6.2.2.2 k0_t12 k0_h3

def k0_off29 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c768_i32 : BitVec 32 := 768#32
  let v344 : BitVec 32 := Scalar.addi v245 c768_i32
  let v345 : Index := Scalar.indexCast v344
  ![v345.toNat]
def k0_off30 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c768_i32_177 : BitVec 32 := 768#32
  let v347 : BitVec 32 := Scalar.addi v245 c768_i32_177
  let c128_i32_178 : BitVec 32 := 128#32
  let v348 : BitVec 32 := Scalar.addi v347 c128_i32_178
  let c1_i32_179 : BitVec 32 := 1#32
  let v349 : BitVec 32 := Scalar.subi v348 c1_i32_179
  let v350 : Index := Scalar.indexCast v349
  ![v350.toNat]
@[reducible] def k0_t13_loop (v346 : BitVec 32) (v351 : BitVec 32) : Scf.Loop 32 :=
  let c1_i32_180 : BitVec 32 := 1#32
  let v352 : BitVec 32 := Scalar.addi v351 c1_i32_180
  let v353 : BitVec 32 := Scalar.subi v352 v346
  let c1_i32_182 : BitVec 32 := 1#32
  let v355 : BitVec 32 := Scalar.divsi v353 c1_i32_182
  let v356 : BitVec 32 := Scalar.muli v355 c1_i32_182
  let v357 : BitVec 32 := Scalar.addi v346 v356
  let c1_i32_183 : BitVec 32 := 1#32
  ⟨v346, v357, c1_i32_183⟩

def k0_off31 (v346 : BitVec 32) (v351 : BitVec 32) (k0_t13 : Fin (k0_t13_loop v346 v351).trips) : Fin 3 → Nat :=
  let c1_i32_183 : BitVec 32 := 1#32
  let arg23 : BitVec 32 := Scf.iv v346 c1_i32_183 k0_t13
  let v510 : Index := Scalar.indexCast arg23
  let c0_259 : Index := 0#32
  let c0_260 : Index := 0#32
  ![v510.toNat, 0, 0]
@[reducible] def k0_t14_loop (v346 : BitVec 32) (v351 : BitVec 32) : Scf.Loop 32 :=
  let c1_i32_180 : BitVec 32 := 1#32
  let v352 : BitVec 32 := Scalar.addi v351 c1_i32_180
  let v353 : BitVec 32 := Scalar.subi v352 v346
  let c1_i32_182 : BitVec 32 := 1#32
  let v355 : BitVec 32 := Scalar.divsi v353 c1_i32_182
  let v356 : BitVec 32 := Scalar.muli v355 c1_i32_182
  let v357 : BitVec 32 := Scalar.addi v346 v356
  let v354 : BitVec 32 := Scalar.addi v346 v353
  let c1_i32_184 : BitVec 32 := 1#32
  ⟨v357, v354, c1_i32_184⟩
def k0_off32 (v346 : BitVec 32) (v351 : BitVec 32) (k0_t14 : Fin (k0_t14_loop v346 v351).trips) : Fin 3 → Nat :=
  let c1_i32_180 : BitVec 32 := 1#32
  let v352 : BitVec 32 := Scalar.addi v351 c1_i32_180
  let v353 : BitVec 32 := Scalar.subi v352 v346
  let c1_i32_182 : BitVec 32 := 1#32
  let v355 : BitVec 32 := Scalar.divsi v353 c1_i32_182
  let v356 : BitVec 32 := Scalar.muli v355 c1_i32_182
  let v357 : BitVec 32 := Scalar.addi v346 v356
  let c1_i32_184 : BitVec 32 := 1#32
  let arg23 : BitVec 32 := Scf.iv v357 c1_i32_184 k0_t14
  let v510 : Index := Scalar.indexCast arg23
  let c0_259 : Index := 0#32
  let c0_260 : Index := 0#32
  ![v510.toNat, 0, 0]

def k0_chk7 (i : grid0.Coords) (v346 : BitVec 32) (v351 : BitVec 32) : Prop :=
  (∀ (k0_h3 : k0_cond3 i = 1#1), (k0_t13_loop v346 v351).OK) ∧
  (∀ k0_t13 : Fin (k0_t13_loop v346 v351).trips, ∀ (k0_h3 : k0_cond3 i = 1#1), ∀ a, (k0_off31 v346 v351 k0_t13) a + S1x1x256.size a ≤ S64x1x256.size a) ∧
  (∀ (k0_h3 : k0_cond3 i = 1#1), (k0_t14_loop v346 v351).OK) ∧
  (∀ k0_t14 : Fin (k0_t14_loop v346 v351).trips, ∀ (k0_h3 : k0_cond3 i = 1#1), ∀ a, (k0_off32 v346 v351 k0_t14) a + S1x1x256.size a ≤ S64x1x256.size a)
theorem k0_t13_ok : ∀ (i : grid0.Coords) (v346 : BitVec 32) (v351 : BitVec 32) (k0_hw7 : k0_chk7 i v346 v351), ∀ (k0_h3 : k0_cond3 i = 1#1), (k0_t13_loop v346 v351).OK := fun i v346 v351 k0_hw7 k0_h3 => k0_hw7.1 k0_h3
theorem k0_off31_inb : ∀ (i : grid0.Coords) (v346 : BitVec 32) (v351 : BitVec 32) (k0_hw7 : k0_chk7 i v346 v351) (k0_t13 : Fin (k0_t13_loop v346 v351).trips), ∀ (k0_h3 : k0_cond3 i = 1#1), ∀ a, (k0_off31 v346 v351 k0_t13) a + S1x1x256.size a ≤ S64x1x256.size a := fun i v346 v351 k0_hw7 k0_t13 k0_h3 => k0_hw7.2.1 k0_t13 k0_h3
theorem k0_t14_ok : ∀ (i : grid0.Coords) (v346 : BitVec 32) (v351 : BitVec 32) (k0_hw7 : k0_chk7 i v346 v351), ∀ (k0_h3 : k0_cond3 i = 1#1), (k0_t14_loop v346 v351).OK := fun i v346 v351 k0_hw7 k0_h3 => k0_hw7.2.2.1 k0_h3
theorem k0_off32_inb : ∀ (i : grid0.Coords) (v346 : BitVec 32) (v351 : BitVec 32) (k0_hw7 : k0_chk7 i v346 v351) (k0_t14 : Fin (k0_t14_loop v346 v351).trips), ∀ (k0_h3 : k0_cond3 i = 1#1), ∀ a, (k0_off32 v346 v351 k0_t14) a + S1x1x256.size a ≤ S64x1x256.size a := fun i v346 v351 k0_hw7 k0_t14 k0_h3 => k0_hw7.2.2.2 k0_t14 k0_h3

def k0_off33 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c896_i32 : BitVec 32 := 896#32
  let v360 : BitVec 32 := Scalar.addi v245 c896_i32
  let v361 : Index := Scalar.indexCast v360
  ![v361.toNat]
def k0_off34 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c896_i32_185 : BitVec 32 := 896#32
  let v363 : BitVec 32 := Scalar.addi v245 c896_i32_185
  let c128_i32_186 : BitVec 32 := 128#32
  let v364 : BitVec 32 := Scalar.addi v363 c128_i32_186
  let c1_i32_187 : BitVec 32 := 1#32
  let v365 : BitVec 32 := Scalar.subi v364 c1_i32_187
  let v366 : Index := Scalar.indexCast v365
  ![v366.toNat]
@[reducible] def k0_t15_loop (v362 : BitVec 32) (v367 : BitVec 32) : Scf.Loop 32 :=
  let c1_i32_188 : BitVec 32 := 1#32
  let v368 : BitVec 32 := Scalar.addi v367 c1_i32_188
  let v369 : BitVec 32 := Scalar.subi v368 v362
  let c1_i32_190 : BitVec 32 := 1#32
  let v371 : BitVec 32 := Scalar.divsi v369 c1_i32_190
  let v372 : BitVec 32 := Scalar.muli v371 c1_i32_190
  let v373 : BitVec 32 := Scalar.addi v362 v372
  let c1_i32_191 : BitVec 32 := 1#32
  ⟨v362, v373, c1_i32_191⟩

def k0_off35 (v362 : BitVec 32) (v367 : BitVec 32) (k0_t15 : Fin (k0_t15_loop v362 v367).trips) : Fin 3 → Nat :=
  let c1_i32_191 : BitVec 32 := 1#32
  let arg23 : BitVec 32 := Scf.iv v362 c1_i32_191 k0_t15
  let v510 : Index := Scalar.indexCast arg23
  let c0_259 : Index := 0#32
  let c0_260 : Index := 0#32
  ![v510.toNat, 0, 0]
@[reducible] def k0_t16_loop (v362 : BitVec 32) (v367 : BitVec 32) : Scf.Loop 32 :=
  let c1_i32_188 : BitVec 32 := 1#32
  let v368 : BitVec 32 := Scalar.addi v367 c1_i32_188
  let v369 : BitVec 32 := Scalar.subi v368 v362
  let c1_i32_190 : BitVec 32 := 1#32
  let v371 : BitVec 32 := Scalar.divsi v369 c1_i32_190
  let v372 : BitVec 32 := Scalar.muli v371 c1_i32_190
  let v373 : BitVec 32 := Scalar.addi v362 v372
  let v370 : BitVec 32 := Scalar.addi v362 v369
  let c1_i32_192 : BitVec 32 := 1#32
  ⟨v373, v370, c1_i32_192⟩
def k0_off36 (v362 : BitVec 32) (v367 : BitVec 32) (k0_t16 : Fin (k0_t16_loop v362 v367).trips) : Fin 3 → Nat :=
  let c1_i32_188 : BitVec 32 := 1#32
  let v368 : BitVec 32 := Scalar.addi v367 c1_i32_188
  let v369 : BitVec 32 := Scalar.subi v368 v362
  let c1_i32_190 : BitVec 32 := 1#32
  let v371 : BitVec 32 := Scalar.divsi v369 c1_i32_190
  let v372 : BitVec 32 := Scalar.muli v371 c1_i32_190
  let v373 : BitVec 32 := Scalar.addi v362 v372
  let c1_i32_192 : BitVec 32 := 1#32
  let arg23 : BitVec 32 := Scf.iv v373 c1_i32_192 k0_t16
  let v510 : Index := Scalar.indexCast arg23
  let c0_259 : Index := 0#32
  let c0_260 : Index := 0#32
  ![v510.toNat, 0, 0]

def k0_chk8 (i : grid0.Coords) (v362 : BitVec 32) (v367 : BitVec 32) : Prop :=
  (∀ (k0_h3 : k0_cond3 i = 1#1), (k0_t15_loop v362 v367).OK) ∧
  (∀ k0_t15 : Fin (k0_t15_loop v362 v367).trips, ∀ (k0_h3 : k0_cond3 i = 1#1), ∀ a, (k0_off35 v362 v367 k0_t15) a + S1x1x256.size a ≤ S64x1x256.size a) ∧
  (∀ (k0_h3 : k0_cond3 i = 1#1), (k0_t16_loop v362 v367).OK) ∧
  (∀ k0_t16 : Fin (k0_t16_loop v362 v367).trips, ∀ (k0_h3 : k0_cond3 i = 1#1), ∀ a, (k0_off36 v362 v367 k0_t16) a + S1x1x256.size a ≤ S64x1x256.size a)
theorem k0_t15_ok : ∀ (i : grid0.Coords) (v362 : BitVec 32) (v367 : BitVec 32) (k0_hw8 : k0_chk8 i v362 v367), ∀ (k0_h3 : k0_cond3 i = 1#1), (k0_t15_loop v362 v367).OK := fun i v362 v367 k0_hw8 k0_h3 => k0_hw8.1 k0_h3
theorem k0_off35_inb : ∀ (i : grid0.Coords) (v362 : BitVec 32) (v367 : BitVec 32) (k0_hw8 : k0_chk8 i v362 v367) (k0_t15 : Fin (k0_t15_loop v362 v367).trips), ∀ (k0_h3 : k0_cond3 i = 1#1), ∀ a, (k0_off35 v362 v367 k0_t15) a + S1x1x256.size a ≤ S64x1x256.size a := fun i v362 v367 k0_hw8 k0_t15 k0_h3 => k0_hw8.2.1 k0_t15 k0_h3
theorem k0_t16_ok : ∀ (i : grid0.Coords) (v362 : BitVec 32) (v367 : BitVec 32) (k0_hw8 : k0_chk8 i v362 v367), ∀ (k0_h3 : k0_cond3 i = 1#1), (k0_t16_loop v362 v367).OK := fun i v362 v367 k0_hw8 k0_h3 => k0_hw8.2.2.1 k0_h3
theorem k0_off36_inb : ∀ (i : grid0.Coords) (v362 : BitVec 32) (v367 : BitVec 32) (k0_hw8 : k0_chk8 i v362 v367) (k0_t16 : Fin (k0_t16_loop v362 v367).trips), ∀ (k0_h3 : k0_cond3 i = 1#1), ∀ a, (k0_off36 v362 v367 k0_t16) a + S1x1x256.size a ≤ S64x1x256.size a := fun i v362 v367 k0_hw8 k0_t16 k0_h3 => k0_hw8.2.2.2 k0_t16 k0_h3

def k0_off37 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1024_i32 : BitVec 32 := 1024#32
  let v376 : BitVec 32 := Scalar.addi v245 c1024_i32
  let v377 : Index := Scalar.indexCast v376
  ![v377.toNat]
def k0_off38 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1024_i32_193 : BitVec 32 := 1024#32
  let v379 : BitVec 32 := Scalar.addi v245 c1024_i32_193
  let c128_i32_194 : BitVec 32 := 128#32
  let v380 : BitVec 32 := Scalar.addi v379 c128_i32_194
  let c1_i32_195 : BitVec 32 := 1#32
  let v381 : BitVec 32 := Scalar.subi v380 c1_i32_195
  let v382 : Index := Scalar.indexCast v381
  ![v382.toNat]
@[reducible] def k0_t17_loop (v378 : BitVec 32) (v383 : BitVec 32) : Scf.Loop 32 :=
  let c1_i32_196 : BitVec 32 := 1#32
  let v384 : BitVec 32 := Scalar.addi v383 c1_i32_196
  let v385 : BitVec 32 := Scalar.subi v384 v378
  let c1_i32_198 : BitVec 32 := 1#32
  let v387 : BitVec 32 := Scalar.divsi v385 c1_i32_198
  let v388 : BitVec 32 := Scalar.muli v387 c1_i32_198
  let v389 : BitVec 32 := Scalar.addi v378 v388
  let c1_i32_199 : BitVec 32 := 1#32
  ⟨v378, v389, c1_i32_199⟩

def k0_off39 (v378 : BitVec 32) (v383 : BitVec 32) (k0_t17 : Fin (k0_t17_loop v378 v383).trips) : Fin 3 → Nat :=
  let c1_i32_199 : BitVec 32 := 1#32
  let arg23 : BitVec 32 := Scf.iv v378 c1_i32_199 k0_t17
  let v510 : Index := Scalar.indexCast arg23
  let c0_259 : Index := 0#32
  let c0_260 : Index := 0#32
  ![v510.toNat, 0, 0]
@[reducible] def k0_t18_loop (v378 : BitVec 32) (v383 : BitVec 32) : Scf.Loop 32 :=
  let c1_i32_196 : BitVec 32 := 1#32
  let v384 : BitVec 32 := Scalar.addi v383 c1_i32_196
  let v385 : BitVec 32 := Scalar.subi v384 v378
  let c1_i32_198 : BitVec 32 := 1#32
  let v387 : BitVec 32 := Scalar.divsi v385 c1_i32_198
  let v388 : BitVec 32 := Scalar.muli v387 c1_i32_198
  let v389 : BitVec 32 := Scalar.addi v378 v388
  let v386 : BitVec 32 := Scalar.addi v378 v385
  let c1_i32_200 : BitVec 32 := 1#32
  ⟨v389, v386, c1_i32_200⟩
def k0_off40 (v378 : BitVec 32) (v383 : BitVec 32) (k0_t18 : Fin (k0_t18_loop v378 v383).trips) : Fin 3 → Nat :=
  let c1_i32_196 : BitVec 32 := 1#32
  let v384 : BitVec 32 := Scalar.addi v383 c1_i32_196
  let v385 : BitVec 32 := Scalar.subi v384 v378
  let c1_i32_198 : BitVec 32 := 1#32
  let v387 : BitVec 32 := Scalar.divsi v385 c1_i32_198
  let v388 : BitVec 32 := Scalar.muli v387 c1_i32_198
  let v389 : BitVec 32 := Scalar.addi v378 v388
  let c1_i32_200 : BitVec 32 := 1#32
  let arg23 : BitVec 32 := Scf.iv v389 c1_i32_200 k0_t18
  let v510 : Index := Scalar.indexCast arg23
  let c0_259 : Index := 0#32
  let c0_260 : Index := 0#32
  ![v510.toNat, 0, 0]

def k0_chk9 (i : grid0.Coords) (v378 : BitVec 32) (v383 : BitVec 32) : Prop :=
  (∀ (k0_h3 : k0_cond3 i = 1#1), (k0_t17_loop v378 v383).OK) ∧
  (∀ k0_t17 : Fin (k0_t17_loop v378 v383).trips, ∀ (k0_h3 : k0_cond3 i = 1#1), ∀ a, (k0_off39 v378 v383 k0_t17) a + S1x1x256.size a ≤ S64x1x256.size a) ∧
  (∀ (k0_h3 : k0_cond3 i = 1#1), (k0_t18_loop v378 v383).OK) ∧
  (∀ k0_t18 : Fin (k0_t18_loop v378 v383).trips, ∀ (k0_h3 : k0_cond3 i = 1#1), ∀ a, (k0_off40 v378 v383 k0_t18) a + S1x1x256.size a ≤ S64x1x256.size a)
theorem k0_t17_ok : ∀ (i : grid0.Coords) (v378 : BitVec 32) (v383 : BitVec 32) (k0_hw9 : k0_chk9 i v378 v383), ∀ (k0_h3 : k0_cond3 i = 1#1), (k0_t17_loop v378 v383).OK := fun i v378 v383 k0_hw9 k0_h3 => k0_hw9.1 k0_h3
theorem k0_off39_inb : ∀ (i : grid0.Coords) (v378 : BitVec 32) (v383 : BitVec 32) (k0_hw9 : k0_chk9 i v378 v383) (k0_t17 : Fin (k0_t17_loop v378 v383).trips), ∀ (k0_h3 : k0_cond3 i = 1#1), ∀ a, (k0_off39 v378 v383 k0_t17) a + S1x1x256.size a ≤ S64x1x256.size a := fun i v378 v383 k0_hw9 k0_t17 k0_h3 => k0_hw9.2.1 k0_t17 k0_h3
theorem k0_t18_ok : ∀ (i : grid0.Coords) (v378 : BitVec 32) (v383 : BitVec 32) (k0_hw9 : k0_chk9 i v378 v383), ∀ (k0_h3 : k0_cond3 i = 1#1), (k0_t18_loop v378 v383).OK := fun i v378 v383 k0_hw9 k0_h3 => k0_hw9.2.2.1 k0_h3
theorem k0_off40_inb : ∀ (i : grid0.Coords) (v378 : BitVec 32) (v383 : BitVec 32) (k0_hw9 : k0_chk9 i v378 v383) (k0_t18 : Fin (k0_t18_loop v378 v383).trips), ∀ (k0_h3 : k0_cond3 i = 1#1), ∀ a, (k0_off40 v378 v383 k0_t18) a + S1x1x256.size a ≤ S64x1x256.size a := fun i v378 v383 k0_hw9 k0_t18 k0_h3 => k0_hw9.2.2.2 k0_t18 k0_h3

def k0_off41 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1152_i32 : BitVec 32 := 1152#32
  let v392 : BitVec 32 := Scalar.addi v245 c1152_i32
  let v393 : Index := Scalar.indexCast v392
  ![v393.toNat]
def k0_off42 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1152_i32_201 : BitVec 32 := 1152#32
  let v395 : BitVec 32 := Scalar.addi v245 c1152_i32_201
  let c128_i32_202 : BitVec 32 := 128#32
  let v396 : BitVec 32 := Scalar.addi v395 c128_i32_202
  let c1_i32_203 : BitVec 32 := 1#32
  let v397 : BitVec 32 := Scalar.subi v396 c1_i32_203
  let v398 : Index := Scalar.indexCast v397
  ![v398.toNat]
@[reducible] def k0_t19_loop (v394 : BitVec 32) (v399 : BitVec 32) : Scf.Loop 32 :=
  let c1_i32_204 : BitVec 32 := 1#32
  let v400 : BitVec 32 := Scalar.addi v399 c1_i32_204
  let v401 : BitVec 32 := Scalar.subi v400 v394
  let c1_i32_206 : BitVec 32 := 1#32
  let v403 : BitVec 32 := Scalar.divsi v401 c1_i32_206
  let v404 : BitVec 32 := Scalar.muli v403 c1_i32_206
  let v405 : BitVec 32 := Scalar.addi v394 v404
  let c1_i32_207 : BitVec 32 := 1#32
  ⟨v394, v405, c1_i32_207⟩

def k0_off43 (v394 : BitVec 32) (v399 : BitVec 32) (k0_t19 : Fin (k0_t19_loop v394 v399).trips) : Fin 3 → Nat :=
  let c1_i32_207 : BitVec 32 := 1#32
  let arg23 : BitVec 32 := Scf.iv v394 c1_i32_207 k0_t19
  let v510 : Index := Scalar.indexCast arg23
  let c0_259 : Index := 0#32
  let c0_260 : Index := 0#32
  ![v510.toNat, 0, 0]
@[reducible] def k0_t20_loop (v394 : BitVec 32) (v399 : BitVec 32) : Scf.Loop 32 :=
  let c1_i32_204 : BitVec 32 := 1#32
  let v400 : BitVec 32 := Scalar.addi v399 c1_i32_204
  let v401 : BitVec 32 := Scalar.subi v400 v394
  let c1_i32_206 : BitVec 32 := 1#32
  let v403 : BitVec 32 := Scalar.divsi v401 c1_i32_206
  let v404 : BitVec 32 := Scalar.muli v403 c1_i32_206
  let v405 : BitVec 32 := Scalar.addi v394 v404
  let v402 : BitVec 32 := Scalar.addi v394 v401
  let c1_i32_208 : BitVec 32 := 1#32
  ⟨v405, v402, c1_i32_208⟩
def k0_off44 (v394 : BitVec 32) (v399 : BitVec 32) (k0_t20 : Fin (k0_t20_loop v394 v399).trips) : Fin 3 → Nat :=
  let c1_i32_204 : BitVec 32 := 1#32
  let v400 : BitVec 32 := Scalar.addi v399 c1_i32_204
  let v401 : BitVec 32 := Scalar.subi v400 v394
  let c1_i32_206 : BitVec 32 := 1#32
  let v403 : BitVec 32 := Scalar.divsi v401 c1_i32_206
  let v404 : BitVec 32 := Scalar.muli v403 c1_i32_206
  let v405 : BitVec 32 := Scalar.addi v394 v404
  let c1_i32_208 : BitVec 32 := 1#32
  let arg23 : BitVec 32 := Scf.iv v405 c1_i32_208 k0_t20
  let v510 : Index := Scalar.indexCast arg23
  let c0_259 : Index := 0#32
  let c0_260 : Index := 0#32
  ![v510.toNat, 0, 0]

def k0_chk10 (i : grid0.Coords) (v394 : BitVec 32) (v399 : BitVec 32) : Prop :=
  (∀ (k0_h3 : k0_cond3 i = 1#1), (k0_t19_loop v394 v399).OK) ∧
  (∀ k0_t19 : Fin (k0_t19_loop v394 v399).trips, ∀ (k0_h3 : k0_cond3 i = 1#1), ∀ a, (k0_off43 v394 v399 k0_t19) a + S1x1x256.size a ≤ S64x1x256.size a) ∧
  (∀ (k0_h3 : k0_cond3 i = 1#1), (k0_t20_loop v394 v399).OK) ∧
  (∀ k0_t20 : Fin (k0_t20_loop v394 v399).trips, ∀ (k0_h3 : k0_cond3 i = 1#1), ∀ a, (k0_off44 v394 v399 k0_t20) a + S1x1x256.size a ≤ S64x1x256.size a)
theorem k0_t19_ok : ∀ (i : grid0.Coords) (v394 : BitVec 32) (v399 : BitVec 32) (k0_hw10 : k0_chk10 i v394 v399), ∀ (k0_h3 : k0_cond3 i = 1#1), (k0_t19_loop v394 v399).OK := fun i v394 v399 k0_hw10 k0_h3 => k0_hw10.1 k0_h3
theorem k0_off43_inb : ∀ (i : grid0.Coords) (v394 : BitVec 32) (v399 : BitVec 32) (k0_hw10 : k0_chk10 i v394 v399) (k0_t19 : Fin (k0_t19_loop v394 v399).trips), ∀ (k0_h3 : k0_cond3 i = 1#1), ∀ a, (k0_off43 v394 v399 k0_t19) a + S1x1x256.size a ≤ S64x1x256.size a := fun i v394 v399 k0_hw10 k0_t19 k0_h3 => k0_hw10.2.1 k0_t19 k0_h3
theorem k0_t20_ok : ∀ (i : grid0.Coords) (v394 : BitVec 32) (v399 : BitVec 32) (k0_hw10 : k0_chk10 i v394 v399), ∀ (k0_h3 : k0_cond3 i = 1#1), (k0_t20_loop v394 v399).OK := fun i v394 v399 k0_hw10 k0_h3 => k0_hw10.2.2.1 k0_h3
theorem k0_off44_inb : ∀ (i : grid0.Coords) (v394 : BitVec 32) (v399 : BitVec 32) (k0_hw10 : k0_chk10 i v394 v399) (k0_t20 : Fin (k0_t20_loop v394 v399).trips), ∀ (k0_h3 : k0_cond3 i = 1#1), ∀ a, (k0_off44 v394 v399 k0_t20) a + S1x1x256.size a ≤ S64x1x256.size a := fun i v394 v399 k0_hw10 k0_t20 k0_h3 => k0_hw10.2.2.2 k0_t20 k0_h3

def k0_off45 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1280_i32 : BitVec 32 := 1280#32
  let v408 : BitVec 32 := Scalar.addi v245 c1280_i32
  let v409 : Index := Scalar.indexCast v408
  ![v409.toNat]
def k0_off46 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1280_i32_209 : BitVec 32 := 1280#32
  let v411 : BitVec 32 := Scalar.addi v245 c1280_i32_209
  let c128_i32_210 : BitVec 32 := 128#32
  let v412 : BitVec 32 := Scalar.addi v411 c128_i32_210
  let c1_i32_211 : BitVec 32 := 1#32
  let v413 : BitVec 32 := Scalar.subi v412 c1_i32_211
  let v414 : Index := Scalar.indexCast v413
  ![v414.toNat]
@[reducible] def k0_t21_loop (v410 : BitVec 32) (v415 : BitVec 32) : Scf.Loop 32 :=
  let c1_i32_212 : BitVec 32 := 1#32
  let v416 : BitVec 32 := Scalar.addi v415 c1_i32_212
  let v417 : BitVec 32 := Scalar.subi v416 v410
  let c1_i32_214 : BitVec 32 := 1#32
  let v419 : BitVec 32 := Scalar.divsi v417 c1_i32_214
  let v420 : BitVec 32 := Scalar.muli v419 c1_i32_214
  let v421 : BitVec 32 := Scalar.addi v410 v420
  let c1_i32_215 : BitVec 32 := 1#32
  ⟨v410, v421, c1_i32_215⟩

def k0_off47 (v410 : BitVec 32) (v415 : BitVec 32) (k0_t21 : Fin (k0_t21_loop v410 v415).trips) : Fin 3 → Nat :=
  let c1_i32_215 : BitVec 32 := 1#32
  let arg23 : BitVec 32 := Scf.iv v410 c1_i32_215 k0_t21
  let v510 : Index := Scalar.indexCast arg23
  let c0_259 : Index := 0#32
  let c0_260 : Index := 0#32
  ![v510.toNat, 0, 0]
@[reducible] def k0_t22_loop (v410 : BitVec 32) (v415 : BitVec 32) : Scf.Loop 32 :=
  let c1_i32_212 : BitVec 32 := 1#32
  let v416 : BitVec 32 := Scalar.addi v415 c1_i32_212
  let v417 : BitVec 32 := Scalar.subi v416 v410
  let c1_i32_214 : BitVec 32 := 1#32
  let v419 : BitVec 32 := Scalar.divsi v417 c1_i32_214
  let v420 : BitVec 32 := Scalar.muli v419 c1_i32_214
  let v421 : BitVec 32 := Scalar.addi v410 v420
  let v418 : BitVec 32 := Scalar.addi v410 v417
  let c1_i32_216 : BitVec 32 := 1#32
  ⟨v421, v418, c1_i32_216⟩
def k0_off48 (v410 : BitVec 32) (v415 : BitVec 32) (k0_t22 : Fin (k0_t22_loop v410 v415).trips) : Fin 3 → Nat :=
  let c1_i32_212 : BitVec 32 := 1#32
  let v416 : BitVec 32 := Scalar.addi v415 c1_i32_212
  let v417 : BitVec 32 := Scalar.subi v416 v410
  let c1_i32_214 : BitVec 32 := 1#32
  let v419 : BitVec 32 := Scalar.divsi v417 c1_i32_214
  let v420 : BitVec 32 := Scalar.muli v419 c1_i32_214
  let v421 : BitVec 32 := Scalar.addi v410 v420
  let c1_i32_216 : BitVec 32 := 1#32
  let arg23 : BitVec 32 := Scf.iv v421 c1_i32_216 k0_t22
  let v510 : Index := Scalar.indexCast arg23
  let c0_259 : Index := 0#32
  let c0_260 : Index := 0#32
  ![v510.toNat, 0, 0]

def k0_chk11 (i : grid0.Coords) (v410 : BitVec 32) (v415 : BitVec 32) : Prop :=
  (∀ (k0_h3 : k0_cond3 i = 1#1), (k0_t21_loop v410 v415).OK) ∧
  (∀ k0_t21 : Fin (k0_t21_loop v410 v415).trips, ∀ (k0_h3 : k0_cond3 i = 1#1), ∀ a, (k0_off47 v410 v415 k0_t21) a + S1x1x256.size a ≤ S64x1x256.size a) ∧
  (∀ (k0_h3 : k0_cond3 i = 1#1), (k0_t22_loop v410 v415).OK) ∧
  (∀ k0_t22 : Fin (k0_t22_loop v410 v415).trips, ∀ (k0_h3 : k0_cond3 i = 1#1), ∀ a, (k0_off48 v410 v415 k0_t22) a + S1x1x256.size a ≤ S64x1x256.size a)
theorem k0_t21_ok : ∀ (i : grid0.Coords) (v410 : BitVec 32) (v415 : BitVec 32) (k0_hw11 : k0_chk11 i v410 v415), ∀ (k0_h3 : k0_cond3 i = 1#1), (k0_t21_loop v410 v415).OK := fun i v410 v415 k0_hw11 k0_h3 => k0_hw11.1 k0_h3
theorem k0_off47_inb : ∀ (i : grid0.Coords) (v410 : BitVec 32) (v415 : BitVec 32) (k0_hw11 : k0_chk11 i v410 v415) (k0_t21 : Fin (k0_t21_loop v410 v415).trips), ∀ (k0_h3 : k0_cond3 i = 1#1), ∀ a, (k0_off47 v410 v415 k0_t21) a + S1x1x256.size a ≤ S64x1x256.size a := fun i v410 v415 k0_hw11 k0_t21 k0_h3 => k0_hw11.2.1 k0_t21 k0_h3
theorem k0_t22_ok : ∀ (i : grid0.Coords) (v410 : BitVec 32) (v415 : BitVec 32) (k0_hw11 : k0_chk11 i v410 v415), ∀ (k0_h3 : k0_cond3 i = 1#1), (k0_t22_loop v410 v415).OK := fun i v410 v415 k0_hw11 k0_h3 => k0_hw11.2.2.1 k0_h3
theorem k0_off48_inb : ∀ (i : grid0.Coords) (v410 : BitVec 32) (v415 : BitVec 32) (k0_hw11 : k0_chk11 i v410 v415) (k0_t22 : Fin (k0_t22_loop v410 v415).trips), ∀ (k0_h3 : k0_cond3 i = 1#1), ∀ a, (k0_off48 v410 v415 k0_t22) a + S1x1x256.size a ≤ S64x1x256.size a := fun i v410 v415 k0_hw11 k0_t22 k0_h3 => k0_hw11.2.2.2 k0_t22 k0_h3

def k0_off49 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1408_i32 : BitVec 32 := 1408#32
  let v424 : BitVec 32 := Scalar.addi v245 c1408_i32
  let v425 : Index := Scalar.indexCast v424
  ![v425.toNat]
def k0_off50 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1408_i32_217 : BitVec 32 := 1408#32
  let v427 : BitVec 32 := Scalar.addi v245 c1408_i32_217
  let c128_i32_218 : BitVec 32 := 128#32
  let v428 : BitVec 32 := Scalar.addi v427 c128_i32_218
  let c1_i32_219 : BitVec 32 := 1#32
  let v429 : BitVec 32 := Scalar.subi v428 c1_i32_219
  let v430 : Index := Scalar.indexCast v429
  ![v430.toNat]
@[reducible] def k0_t23_loop (v426 : BitVec 32) (v431 : BitVec 32) : Scf.Loop 32 :=
  let c1_i32_220 : BitVec 32 := 1#32
  let v432 : BitVec 32 := Scalar.addi v431 c1_i32_220
  let v433 : BitVec 32 := Scalar.subi v432 v426
  let c1_i32_222 : BitVec 32 := 1#32
  let v435 : BitVec 32 := Scalar.divsi v433 c1_i32_222
  let v436 : BitVec 32 := Scalar.muli v435 c1_i32_222
  let v437 : BitVec 32 := Scalar.addi v426 v436
  let c1_i32_223 : BitVec 32 := 1#32
  ⟨v426, v437, c1_i32_223⟩

def k0_off51 (v426 : BitVec 32) (v431 : BitVec 32) (k0_t23 : Fin (k0_t23_loop v426 v431).trips) : Fin 3 → Nat :=
  let c1_i32_223 : BitVec 32 := 1#32
  let arg23 : BitVec 32 := Scf.iv v426 c1_i32_223 k0_t23
  let v510 : Index := Scalar.indexCast arg23
  let c0_259 : Index := 0#32
  let c0_260 : Index := 0#32
  ![v510.toNat, 0, 0]
@[reducible] def k0_t24_loop (v426 : BitVec 32) (v431 : BitVec 32) : Scf.Loop 32 :=
  let c1_i32_220 : BitVec 32 := 1#32
  let v432 : BitVec 32 := Scalar.addi v431 c1_i32_220
  let v433 : BitVec 32 := Scalar.subi v432 v426
  let c1_i32_222 : BitVec 32 := 1#32
  let v435 : BitVec 32 := Scalar.divsi v433 c1_i32_222
  let v436 : BitVec 32 := Scalar.muli v435 c1_i32_222
  let v437 : BitVec 32 := Scalar.addi v426 v436
  let v434 : BitVec 32 := Scalar.addi v426 v433
  let c1_i32_224 : BitVec 32 := 1#32
  ⟨v437, v434, c1_i32_224⟩
def k0_off52 (v426 : BitVec 32) (v431 : BitVec 32) (k0_t24 : Fin (k0_t24_loop v426 v431).trips) : Fin 3 → Nat :=
  let c1_i32_220 : BitVec 32 := 1#32
  let v432 : BitVec 32 := Scalar.addi v431 c1_i32_220
  let v433 : BitVec 32 := Scalar.subi v432 v426
  let c1_i32_222 : BitVec 32 := 1#32
  let v435 : BitVec 32 := Scalar.divsi v433 c1_i32_222
  let v436 : BitVec 32 := Scalar.muli v435 c1_i32_222
  let v437 : BitVec 32 := Scalar.addi v426 v436
  let c1_i32_224 : BitVec 32 := 1#32
  let arg23 : BitVec 32 := Scf.iv v437 c1_i32_224 k0_t24
  let v510 : Index := Scalar.indexCast arg23
  let c0_259 : Index := 0#32
  let c0_260 : Index := 0#32
  ![v510.toNat, 0, 0]

def k0_chk12 (i : grid0.Coords) (v426 : BitVec 32) (v431 : BitVec 32) : Prop :=
  (∀ (k0_h3 : k0_cond3 i = 1#1), (k0_t23_loop v426 v431).OK) ∧
  (∀ k0_t23 : Fin (k0_t23_loop v426 v431).trips, ∀ (k0_h3 : k0_cond3 i = 1#1), ∀ a, (k0_off51 v426 v431 k0_t23) a + S1x1x256.size a ≤ S64x1x256.size a) ∧
  (∀ (k0_h3 : k0_cond3 i = 1#1), (k0_t24_loop v426 v431).OK) ∧
  (∀ k0_t24 : Fin (k0_t24_loop v426 v431).trips, ∀ (k0_h3 : k0_cond3 i = 1#1), ∀ a, (k0_off52 v426 v431 k0_t24) a + S1x1x256.size a ≤ S64x1x256.size a)
theorem k0_t23_ok : ∀ (i : grid0.Coords) (v426 : BitVec 32) (v431 : BitVec 32) (k0_hw12 : k0_chk12 i v426 v431), ∀ (k0_h3 : k0_cond3 i = 1#1), (k0_t23_loop v426 v431).OK := fun i v426 v431 k0_hw12 k0_h3 => k0_hw12.1 k0_h3
theorem k0_off51_inb : ∀ (i : grid0.Coords) (v426 : BitVec 32) (v431 : BitVec 32) (k0_hw12 : k0_chk12 i v426 v431) (k0_t23 : Fin (k0_t23_loop v426 v431).trips), ∀ (k0_h3 : k0_cond3 i = 1#1), ∀ a, (k0_off51 v426 v431 k0_t23) a + S1x1x256.size a ≤ S64x1x256.size a := fun i v426 v431 k0_hw12 k0_t23 k0_h3 => k0_hw12.2.1 k0_t23 k0_h3
theorem k0_t24_ok : ∀ (i : grid0.Coords) (v426 : BitVec 32) (v431 : BitVec 32) (k0_hw12 : k0_chk12 i v426 v431), ∀ (k0_h3 : k0_cond3 i = 1#1), (k0_t24_loop v426 v431).OK := fun i v426 v431 k0_hw12 k0_h3 => k0_hw12.2.2.1 k0_h3
theorem k0_off52_inb : ∀ (i : grid0.Coords) (v426 : BitVec 32) (v431 : BitVec 32) (k0_hw12 : k0_chk12 i v426 v431) (k0_t24 : Fin (k0_t24_loop v426 v431).trips), ∀ (k0_h3 : k0_cond3 i = 1#1), ∀ a, (k0_off52 v426 v431 k0_t24) a + S1x1x256.size a ≤ S64x1x256.size a := fun i v426 v431 k0_hw12 k0_t24 k0_h3 => k0_hw12.2.2.2 k0_t24 k0_h3

def k0_off53 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1536_i32 : BitVec 32 := 1536#32
  let v440 : BitVec 32 := Scalar.addi v245 c1536_i32
  let v441 : Index := Scalar.indexCast v440
  ![v441.toNat]
def k0_off54 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1536_i32_225 : BitVec 32 := 1536#32
  let v443 : BitVec 32 := Scalar.addi v245 c1536_i32_225
  let c128_i32_226 : BitVec 32 := 128#32
  let v444 : BitVec 32 := Scalar.addi v443 c128_i32_226
  let c1_i32_227 : BitVec 32 := 1#32
  let v445 : BitVec 32 := Scalar.subi v444 c1_i32_227
  let v446 : Index := Scalar.indexCast v445
  ![v446.toNat]
@[reducible] def k0_t25_loop (v442 : BitVec 32) (v447 : BitVec 32) : Scf.Loop 32 :=
  let c1_i32_228 : BitVec 32 := 1#32
  let v448 : BitVec 32 := Scalar.addi v447 c1_i32_228
  let v449 : BitVec 32 := Scalar.subi v448 v442
  let c1_i32_230 : BitVec 32 := 1#32
  let v451 : BitVec 32 := Scalar.divsi v449 c1_i32_230
  let v452 : BitVec 32 := Scalar.muli v451 c1_i32_230
  let v453 : BitVec 32 := Scalar.addi v442 v452
  let c1_i32_231 : BitVec 32 := 1#32
  ⟨v442, v453, c1_i32_231⟩

def k0_off55 (v442 : BitVec 32) (v447 : BitVec 32) (k0_t25 : Fin (k0_t25_loop v442 v447).trips) : Fin 3 → Nat :=
  let c1_i32_231 : BitVec 32 := 1#32
  let arg23 : BitVec 32 := Scf.iv v442 c1_i32_231 k0_t25
  let v510 : Index := Scalar.indexCast arg23
  let c0_259 : Index := 0#32
  let c0_260 : Index := 0#32
  ![v510.toNat, 0, 0]
@[reducible] def k0_t26_loop (v442 : BitVec 32) (v447 : BitVec 32) : Scf.Loop 32 :=
  let c1_i32_228 : BitVec 32 := 1#32
  let v448 : BitVec 32 := Scalar.addi v447 c1_i32_228
  let v449 : BitVec 32 := Scalar.subi v448 v442
  let c1_i32_230 : BitVec 32 := 1#32
  let v451 : BitVec 32 := Scalar.divsi v449 c1_i32_230
  let v452 : BitVec 32 := Scalar.muli v451 c1_i32_230
  let v453 : BitVec 32 := Scalar.addi v442 v452
  let v450 : BitVec 32 := Scalar.addi v442 v449
  let c1_i32_232 : BitVec 32 := 1#32
  ⟨v453, v450, c1_i32_232⟩
def k0_off56 (v442 : BitVec 32) (v447 : BitVec 32) (k0_t26 : Fin (k0_t26_loop v442 v447).trips) : Fin 3 → Nat :=
  let c1_i32_228 : BitVec 32 := 1#32
  let v448 : BitVec 32 := Scalar.addi v447 c1_i32_228
  let v449 : BitVec 32 := Scalar.subi v448 v442
  let c1_i32_230 : BitVec 32 := 1#32
  let v451 : BitVec 32 := Scalar.divsi v449 c1_i32_230
  let v452 : BitVec 32 := Scalar.muli v451 c1_i32_230
  let v453 : BitVec 32 := Scalar.addi v442 v452
  let c1_i32_232 : BitVec 32 := 1#32
  let arg23 : BitVec 32 := Scf.iv v453 c1_i32_232 k0_t26
  let v510 : Index := Scalar.indexCast arg23
  let c0_259 : Index := 0#32
  let c0_260 : Index := 0#32
  ![v510.toNat, 0, 0]

def k0_chk13 (i : grid0.Coords) (v442 : BitVec 32) (v447 : BitVec 32) : Prop :=
  (∀ (k0_h3 : k0_cond3 i = 1#1), (k0_t25_loop v442 v447).OK) ∧
  (∀ k0_t25 : Fin (k0_t25_loop v442 v447).trips, ∀ (k0_h3 : k0_cond3 i = 1#1), ∀ a, (k0_off55 v442 v447 k0_t25) a + S1x1x256.size a ≤ S64x1x256.size a) ∧
  (∀ (k0_h3 : k0_cond3 i = 1#1), (k0_t26_loop v442 v447).OK) ∧
  (∀ k0_t26 : Fin (k0_t26_loop v442 v447).trips, ∀ (k0_h3 : k0_cond3 i = 1#1), ∀ a, (k0_off56 v442 v447 k0_t26) a + S1x1x256.size a ≤ S64x1x256.size a)
theorem k0_t25_ok : ∀ (i : grid0.Coords) (v442 : BitVec 32) (v447 : BitVec 32) (k0_hw13 : k0_chk13 i v442 v447), ∀ (k0_h3 : k0_cond3 i = 1#1), (k0_t25_loop v442 v447).OK := fun i v442 v447 k0_hw13 k0_h3 => k0_hw13.1 k0_h3
theorem k0_off55_inb : ∀ (i : grid0.Coords) (v442 : BitVec 32) (v447 : BitVec 32) (k0_hw13 : k0_chk13 i v442 v447) (k0_t25 : Fin (k0_t25_loop v442 v447).trips), ∀ (k0_h3 : k0_cond3 i = 1#1), ∀ a, (k0_off55 v442 v447 k0_t25) a + S1x1x256.size a ≤ S64x1x256.size a := fun i v442 v447 k0_hw13 k0_t25 k0_h3 => k0_hw13.2.1 k0_t25 k0_h3
theorem k0_t26_ok : ∀ (i : grid0.Coords) (v442 : BitVec 32) (v447 : BitVec 32) (k0_hw13 : k0_chk13 i v442 v447), ∀ (k0_h3 : k0_cond3 i = 1#1), (k0_t26_loop v442 v447).OK := fun i v442 v447 k0_hw13 k0_h3 => k0_hw13.2.2.1 k0_h3
theorem k0_off56_inb : ∀ (i : grid0.Coords) (v442 : BitVec 32) (v447 : BitVec 32) (k0_hw13 : k0_chk13 i v442 v447) (k0_t26 : Fin (k0_t26_loop v442 v447).trips), ∀ (k0_h3 : k0_cond3 i = 1#1), ∀ a, (k0_off56 v442 v447 k0_t26) a + S1x1x256.size a ≤ S64x1x256.size a := fun i v442 v447 k0_hw13 k0_t26 k0_h3 => k0_hw13.2.2.2 k0_t26 k0_h3

def k0_off57 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1664_i32 : BitVec 32 := 1664#32
  let v456 : BitVec 32 := Scalar.addi v245 c1664_i32
  let v457 : Index := Scalar.indexCast v456
  ![v457.toNat]
def k0_off58 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1664_i32_233 : BitVec 32 := 1664#32
  let v459 : BitVec 32 := Scalar.addi v245 c1664_i32_233
  let c128_i32_234 : BitVec 32 := 128#32
  let v460 : BitVec 32 := Scalar.addi v459 c128_i32_234
  let c1_i32_235 : BitVec 32 := 1#32
  let v461 : BitVec 32 := Scalar.subi v460 c1_i32_235
  let v462 : Index := Scalar.indexCast v461
  ![v462.toNat]
@[reducible] def k0_t27_loop (v458 : BitVec 32) (v463 : BitVec 32) : Scf.Loop 32 :=
  let c1_i32_236 : BitVec 32 := 1#32
  let v464 : BitVec 32 := Scalar.addi v463 c1_i32_236
  let v465 : BitVec 32 := Scalar.subi v464 v458
  let c1_i32_238 : BitVec 32 := 1#32
  let v467 : BitVec 32 := Scalar.divsi v465 c1_i32_238
  let v468 : BitVec 32 := Scalar.muli v467 c1_i32_238
  let v469 : BitVec 32 := Scalar.addi v458 v468
  let c1_i32_239 : BitVec 32 := 1#32
  ⟨v458, v469, c1_i32_239⟩

def k0_off59 (v458 : BitVec 32) (v463 : BitVec 32) (k0_t27 : Fin (k0_t27_loop v458 v463).trips) : Fin 3 → Nat :=
  let c1_i32_239 : BitVec 32 := 1#32
  let arg23 : BitVec 32 := Scf.iv v458 c1_i32_239 k0_t27
  let v510 : Index := Scalar.indexCast arg23
  let c0_259 : Index := 0#32
  let c0_260 : Index := 0#32
  ![v510.toNat, 0, 0]
@[reducible] def k0_t28_loop (v458 : BitVec 32) (v463 : BitVec 32) : Scf.Loop 32 :=
  let c1_i32_236 : BitVec 32 := 1#32
  let v464 : BitVec 32 := Scalar.addi v463 c1_i32_236
  let v465 : BitVec 32 := Scalar.subi v464 v458
  let c1_i32_238 : BitVec 32 := 1#32
  let v467 : BitVec 32 := Scalar.divsi v465 c1_i32_238
  let v468 : BitVec 32 := Scalar.muli v467 c1_i32_238
  let v469 : BitVec 32 := Scalar.addi v458 v468
  let v466 : BitVec 32 := Scalar.addi v458 v465
  let c1_i32_240 : BitVec 32 := 1#32
  ⟨v469, v466, c1_i32_240⟩
def k0_off60 (v458 : BitVec 32) (v463 : BitVec 32) (k0_t28 : Fin (k0_t28_loop v458 v463).trips) : Fin 3 → Nat :=
  let c1_i32_236 : BitVec 32 := 1#32
  let v464 : BitVec 32 := Scalar.addi v463 c1_i32_236
  let v465 : BitVec 32 := Scalar.subi v464 v458
  let c1_i32_238 : BitVec 32 := 1#32
  let v467 : BitVec 32 := Scalar.divsi v465 c1_i32_238
  let v468 : BitVec 32 := Scalar.muli v467 c1_i32_238
  let v469 : BitVec 32 := Scalar.addi v458 v468
  let c1_i32_240 : BitVec 32 := 1#32
  let arg23 : BitVec 32 := Scf.iv v469 c1_i32_240 k0_t28
  let v510 : Index := Scalar.indexCast arg23
  let c0_259 : Index := 0#32
  let c0_260 : Index := 0#32
  ![v510.toNat, 0, 0]

def k0_chk14 (i : grid0.Coords) (v458 : BitVec 32) (v463 : BitVec 32) : Prop :=
  (∀ (k0_h3 : k0_cond3 i = 1#1), (k0_t27_loop v458 v463).OK) ∧
  (∀ k0_t27 : Fin (k0_t27_loop v458 v463).trips, ∀ (k0_h3 : k0_cond3 i = 1#1), ∀ a, (k0_off59 v458 v463 k0_t27) a + S1x1x256.size a ≤ S64x1x256.size a) ∧
  (∀ (k0_h3 : k0_cond3 i = 1#1), (k0_t28_loop v458 v463).OK) ∧
  (∀ k0_t28 : Fin (k0_t28_loop v458 v463).trips, ∀ (k0_h3 : k0_cond3 i = 1#1), ∀ a, (k0_off60 v458 v463 k0_t28) a + S1x1x256.size a ≤ S64x1x256.size a)
theorem k0_t27_ok : ∀ (i : grid0.Coords) (v458 : BitVec 32) (v463 : BitVec 32) (k0_hw14 : k0_chk14 i v458 v463), ∀ (k0_h3 : k0_cond3 i = 1#1), (k0_t27_loop v458 v463).OK := fun i v458 v463 k0_hw14 k0_h3 => k0_hw14.1 k0_h3
theorem k0_off59_inb : ∀ (i : grid0.Coords) (v458 : BitVec 32) (v463 : BitVec 32) (k0_hw14 : k0_chk14 i v458 v463) (k0_t27 : Fin (k0_t27_loop v458 v463).trips), ∀ (k0_h3 : k0_cond3 i = 1#1), ∀ a, (k0_off59 v458 v463 k0_t27) a + S1x1x256.size a ≤ S64x1x256.size a := fun i v458 v463 k0_hw14 k0_t27 k0_h3 => k0_hw14.2.1 k0_t27 k0_h3
theorem k0_t28_ok : ∀ (i : grid0.Coords) (v458 : BitVec 32) (v463 : BitVec 32) (k0_hw14 : k0_chk14 i v458 v463), ∀ (k0_h3 : k0_cond3 i = 1#1), (k0_t28_loop v458 v463).OK := fun i v458 v463 k0_hw14 k0_h3 => k0_hw14.2.2.1 k0_h3
theorem k0_off60_inb : ∀ (i : grid0.Coords) (v458 : BitVec 32) (v463 : BitVec 32) (k0_hw14 : k0_chk14 i v458 v463) (k0_t28 : Fin (k0_t28_loop v458 v463).trips), ∀ (k0_h3 : k0_cond3 i = 1#1), ∀ a, (k0_off60 v458 v463 k0_t28) a + S1x1x256.size a ≤ S64x1x256.size a := fun i v458 v463 k0_hw14 k0_t28 k0_h3 => k0_hw14.2.2.2 k0_t28 k0_h3

def k0_off61 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1792_i32 : BitVec 32 := 1792#32
  let v472 : BitVec 32 := Scalar.addi v245 c1792_i32
  let v473 : Index := Scalar.indexCast v472
  ![v473.toNat]
def k0_off62 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1792_i32_241 : BitVec 32 := 1792#32
  let v475 : BitVec 32 := Scalar.addi v245 c1792_i32_241
  let c128_i32_242 : BitVec 32 := 128#32
  let v476 : BitVec 32 := Scalar.addi v475 c128_i32_242
  let c1_i32_243 : BitVec 32 := 1#32
  let v477 : BitVec 32 := Scalar.subi v476 c1_i32_243
  let v478 : Index := Scalar.indexCast v477
  ![v478.toNat]
@[reducible] def k0_t29_loop (v474 : BitVec 32) (v479 : BitVec 32) : Scf.Loop 32 :=
  let c1_i32_244 : BitVec 32 := 1#32
  let v480 : BitVec 32 := Scalar.addi v479 c1_i32_244
  let v481 : BitVec 32 := Scalar.subi v480 v474
  let c1_i32_246 : BitVec 32 := 1#32
  let v483 : BitVec 32 := Scalar.divsi v481 c1_i32_246
  let v484 : BitVec 32 := Scalar.muli v483 c1_i32_246
  let v485 : BitVec 32 := Scalar.addi v474 v484
  let c1_i32_247 : BitVec 32 := 1#32
  ⟨v474, v485, c1_i32_247⟩

def k0_off63 (v474 : BitVec 32) (v479 : BitVec 32) (k0_t29 : Fin (k0_t29_loop v474 v479).trips) : Fin 3 → Nat :=
  let c1_i32_247 : BitVec 32 := 1#32
  let arg23 : BitVec 32 := Scf.iv v474 c1_i32_247 k0_t29
  let v510 : Index := Scalar.indexCast arg23
  let c0_259 : Index := 0#32
  let c0_260 : Index := 0#32
  ![v510.toNat, 0, 0]
@[reducible] def k0_t30_loop (v474 : BitVec 32) (v479 : BitVec 32) : Scf.Loop 32 :=
  let c1_i32_244 : BitVec 32 := 1#32
  let v480 : BitVec 32 := Scalar.addi v479 c1_i32_244
  let v481 : BitVec 32 := Scalar.subi v480 v474
  let c1_i32_246 : BitVec 32 := 1#32
  let v483 : BitVec 32 := Scalar.divsi v481 c1_i32_246
  let v484 : BitVec 32 := Scalar.muli v483 c1_i32_246
  let v485 : BitVec 32 := Scalar.addi v474 v484
  let v482 : BitVec 32 := Scalar.addi v474 v481
  let c1_i32_248 : BitVec 32 := 1#32
  ⟨v485, v482, c1_i32_248⟩
def k0_off64 (v474 : BitVec 32) (v479 : BitVec 32) (k0_t30 : Fin (k0_t30_loop v474 v479).trips) : Fin 3 → Nat :=
  let c1_i32_244 : BitVec 32 := 1#32
  let v480 : BitVec 32 := Scalar.addi v479 c1_i32_244
  let v481 : BitVec 32 := Scalar.subi v480 v474
  let c1_i32_246 : BitVec 32 := 1#32
  let v483 : BitVec 32 := Scalar.divsi v481 c1_i32_246
  let v484 : BitVec 32 := Scalar.muli v483 c1_i32_246
  let v485 : BitVec 32 := Scalar.addi v474 v484
  let c1_i32_248 : BitVec 32 := 1#32
  let arg23 : BitVec 32 := Scf.iv v485 c1_i32_248 k0_t30
  let v510 : Index := Scalar.indexCast arg23
  let c0_259 : Index := 0#32
  let c0_260 : Index := 0#32
  ![v510.toNat, 0, 0]

def k0_chk15 (i : grid0.Coords) (v474 : BitVec 32) (v479 : BitVec 32) : Prop :=
  (∀ (k0_h3 : k0_cond3 i = 1#1), (k0_t29_loop v474 v479).OK) ∧
  (∀ k0_t29 : Fin (k0_t29_loop v474 v479).trips, ∀ (k0_h3 : k0_cond3 i = 1#1), ∀ a, (k0_off63 v474 v479 k0_t29) a + S1x1x256.size a ≤ S64x1x256.size a) ∧
  (∀ (k0_h3 : k0_cond3 i = 1#1), (k0_t30_loop v474 v479).OK) ∧
  (∀ k0_t30 : Fin (k0_t30_loop v474 v479).trips, ∀ (k0_h3 : k0_cond3 i = 1#1), ∀ a, (k0_off64 v474 v479 k0_t30) a + S1x1x256.size a ≤ S64x1x256.size a)
theorem k0_t29_ok : ∀ (i : grid0.Coords) (v474 : BitVec 32) (v479 : BitVec 32) (k0_hw15 : k0_chk15 i v474 v479), ∀ (k0_h3 : k0_cond3 i = 1#1), (k0_t29_loop v474 v479).OK := fun i v474 v479 k0_hw15 k0_h3 => k0_hw15.1 k0_h3
theorem k0_off63_inb : ∀ (i : grid0.Coords) (v474 : BitVec 32) (v479 : BitVec 32) (k0_hw15 : k0_chk15 i v474 v479) (k0_t29 : Fin (k0_t29_loop v474 v479).trips), ∀ (k0_h3 : k0_cond3 i = 1#1), ∀ a, (k0_off63 v474 v479 k0_t29) a + S1x1x256.size a ≤ S64x1x256.size a := fun i v474 v479 k0_hw15 k0_t29 k0_h3 => k0_hw15.2.1 k0_t29 k0_h3
theorem k0_t30_ok : ∀ (i : grid0.Coords) (v474 : BitVec 32) (v479 : BitVec 32) (k0_hw15 : k0_chk15 i v474 v479), ∀ (k0_h3 : k0_cond3 i = 1#1), (k0_t30_loop v474 v479).OK := fun i v474 v479 k0_hw15 k0_h3 => k0_hw15.2.2.1 k0_h3
theorem k0_off64_inb : ∀ (i : grid0.Coords) (v474 : BitVec 32) (v479 : BitVec 32) (k0_hw15 : k0_chk15 i v474 v479) (k0_t30 : Fin (k0_t30_loop v474 v479).trips), ∀ (k0_h3 : k0_cond3 i = 1#1), ∀ a, (k0_off64 v474 v479 k0_t30) a + S1x1x256.size a ≤ S64x1x256.size a := fun i v474 v479 k0_hw15 k0_t30 k0_h3 => k0_hw15.2.2.2 k0_t30 k0_h3

def k0_off65 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1920_i32 : BitVec 32 := 1920#32
  let v488 : BitVec 32 := Scalar.addi v245 c1920_i32
  let v489 : Index := Scalar.indexCast v488
  ![v489.toNat]
def k0_off66 (i : grid0.Coords) : Fin 1 → Nat :=
  let arg0 : BitVec 32 := BitVec.ofNat 32 (i 0).val
  let c4_i32_5 : BitVec 32 := 4#32
  let v12 : BitVec 32 := Scalar.subi arg0 c4_i32_5
  let c2048_i32_128 : BitVec 32 := 2048#32
  let v245 : BitVec 32 := Scalar.muli v12 c2048_i32_128
  let c1920_i32_249 : BitVec 32 := 1920#32
  let v491 : BitVec 32 := Scalar.addi v245 c1920_i32_249
  let c128_i32_250 : BitVec 32 := 128#32
  let v492 : BitVec 32 := Scalar.addi v491 c128_i32_250
  let c1_i32_251 : BitVec 32 := 1#32
  let v493 : BitVec 32 := Scalar.subi v492 c1_i32_251
  let v494 : Index := Scalar.indexCast v493
  ![v494.toNat]
@[reducible] def k0_t31_loop (v490 : BitVec 32) (v495 : BitVec 32) : Scf.Loop 32 :=
  let c1_i32_252 : BitVec 32 := 1#32
  let v496 : BitVec 32 := Scalar.addi v495 c1_i32_252
  let v497 : BitVec 32 := Scalar.subi v496 v490
  let c1_i32_254 : BitVec 32 := 1#32
  let v499 : BitVec 32 := Scalar.divsi v497 c1_i32_254
  let v500 : BitVec 32 := Scalar.muli v499 c1_i32_254
  let v501 : BitVec 32 := Scalar.addi v490 v500
  let c1_i32_255 : BitVec 32 := 1#32
  ⟨v490, v501, c1_i32_255⟩

def k0_off67 (v490 : BitVec 32) (v495 : BitVec 32) (k0_t31 : Fin (k0_t31_loop v490 v495).trips) : Fin 3 → Nat :=
  let c1_i32_255 : BitVec 32 := 1#32
  let arg23 : BitVec 32 := Scf.iv v490 c1_i32_255 k0_t31
  let v510 : Index := Scalar.indexCast arg23
  let c0_259 : Index := 0#32
  let c0_260 : Index := 0#32
  ![v510.toNat, 0, 0]
@[reducible] def k0_t32_loop (v490 : BitVec 32) (v495 : BitVec 32) : Scf.Loop 32 :=
  let c1_i32_252 : BitVec 32 := 1#32
  let v496 : BitVec 32 := Scalar.addi v495 c1_i32_252
  let v497 : BitVec 32 := Scalar.subi v496 v490
  let c1_i32_254 : BitVec 32 := 1#32
  let v499 : BitVec 32 := Scalar.divsi v497 c1_i32_254
  let v500 : BitVec 32 := Scalar.muli v499 c1_i32_254
  let v501 : BitVec 32 := Scalar.addi v490 v500
  let v498 : BitVec 32 := Scalar.addi v490 v497
  let c1_i32_256 : BitVec 32 := 1#32
  ⟨v501, v498, c1_i32_256⟩
def k0_off68 (v490 : BitVec 32) (v495 : BitVec 32) (k0_t32 : Fin (k0_t32_loop v490 v495).trips) : Fin 3 → Nat :=
  let c1_i32_252 : BitVec 32 := 1#32
  let v496 : BitVec 32 := Scalar.addi v495 c1_i32_252
  let v497 : BitVec 32 := Scalar.subi v496 v490
  let c1_i32_254 : BitVec 32 := 1#32
  let v499 : BitVec 32 := Scalar.divsi v497 c1_i32_254
  let v500 : BitVec 32 := Scalar.muli v499 c1_i32_254
  let v501 : BitVec 32 := Scalar.addi v490 v500
  let c1_i32_256 : BitVec 32 := 1#32
  let arg23 : BitVec 32 := Scf.iv v501 c1_i32_256 k0_t32
  let v510 : Index := Scalar.indexCast arg23
  let c0_259 : Index := 0#32
  let c0_260 : Index := 0#32
  ![v510.toNat, 0, 0]

def k0_chk16 (i : grid0.Coords) (v490 : BitVec 32) (v495 : BitVec 32) : Prop :=
  (∀ (k0_h3 : k0_cond3 i = 1#1), (k0_t31_loop v490 v495).OK) ∧
  (∀ k0_t31 : Fin (k0_t31_loop v490 v495).trips, ∀ (k0_h3 : k0_cond3 i = 1#1), ∀ a, (k0_off67 v490 v495 k0_t31) a + S1x1x256.size a ≤ S64x1x256.size a) ∧
  (∀ (k0_h3 : k0_cond3 i = 1#1), (k0_t32_loop v490 v495).OK) ∧
  (∀ k0_t32 : Fin (k0_t32_loop v490 v495).trips, ∀ (k0_h3 : k0_cond3 i = 1#1), ∀ a, (k0_off68 v490 v495 k0_t32) a + S1x1x256.size a ≤ S64x1x256.size a)
theorem k0_t31_ok : ∀ (i : grid0.Coords) (v490 : BitVec 32) (v495 : BitVec 32) (k0_hw16 : k0_chk16 i v490 v495), ∀ (k0_h3 : k0_cond3 i = 1#1), (k0_t31_loop v490 v495).OK := fun i v490 v495 k0_hw16 k0_h3 => k0_hw16.1 k0_h3
theorem k0_off67_inb : ∀ (i : grid0.Coords) (v490 : BitVec 32) (v495 : BitVec 32) (k0_hw16 : k0_chk16 i v490 v495) (k0_t31 : Fin (k0_t31_loop v490 v495).trips), ∀ (k0_h3 : k0_cond3 i = 1#1), ∀ a, (k0_off67 v490 v495 k0_t31) a + S1x1x256.size a ≤ S64x1x256.size a := fun i v490 v495 k0_hw16 k0_t31 k0_h3 => k0_hw16.2.1 k0_t31 k0_h3
theorem k0_t32_ok : ∀ (i : grid0.Coords) (v490 : BitVec 32) (v495 : BitVec 32) (k0_hw16 : k0_chk16 i v490 v495), ∀ (k0_h3 : k0_cond3 i = 1#1), (k0_t32_loop v490 v495).OK := fun i v490 v495 k0_hw16 k0_h3 => k0_hw16.2.2.1 k0_h3
theorem k0_off68_inb : ∀ (i : grid0.Coords) (v490 : BitVec 32) (v495 : BitVec 32) (k0_hw16 : k0_chk16 i v490 v495) (k0_t32 : Fin (k0_t32_loop v490 v495).trips), ∀ (k0_h3 : k0_cond3 i = 1#1), ∀ a, (k0_off68 v490 v495 k0_t32) a + S1x1x256.size a ≤ S64x1x256.size a := fun i v490 v495 k0_hw16 k0_t32 k0_h3 => k0_hw16.2.2.2 k0_t32 k0_h3

def k0_cond4 (i : grid0.Coords) : BitVec 1 :=
  let arg0 : BitVec 32 := BitVec.ofNat 32 (i 0).val
  let c7_i32 : BitVec 32 := 7#32
  let v9 : BitVec 1 := Scalar.cmpi .eq arg0 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2048 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S8192 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8192x256 : Shape := ⟨2, ![8192, 256]⟩
abbrev S256x256 : Shape := ⟨2, ![256, 256]⟩
abbrev S256 : Shape := ⟨1, ![256]⟩
abbrev S8192 : Shape := ⟨1, ![8192]⟩
abbrev S1x256 : Shape := ⟨2, ![1, 256]⟩
abbrev S_ : Shape := ⟨0, ![]⟩
abbrev S256x8192 : Shape := ⟨2, ![256, 8192]⟩
abbrev S8192x8192 : Shape := ⟨2, ![8192, 8192]⟩
abbrev S8192x1 : Shape := ⟨2, ![8192, 1]⟩
abbrev S64 : Shape := ⟨1, ![64]⟩
abbrev S64x256 : Shape := ⟨2, ![64, 256]⟩
abbrev S1x8192 : Shape := ⟨2, ![1, 8192]⟩
abbrev S64x1 : Shape := ⟨2, ![64, 1]⟩
abbrev S64x8192 : Shape := ⟨2, ![64, 8192]⟩
abbrev S64x8192x1 : Shape := ⟨3, ![64, 8192, 1]⟩
abbrev S1x8192x256 : Shape := ⟨3, ![1, 8192, 256]⟩
abbrev S64x8192x256 : Shape := ⟨3, ![64, 8192, 256]⟩
abbrev S64x512 : Shape := ⟨2, ![64, 512]⟩

abbrev nBuf : Space → Nat
  | .hbm => 97
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S8192, .i32⟩
  | .hbm, ⟨10, _⟩ => ⟨S8192x256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S1x256, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S_, .f32⟩
  | .hbm, ⟨31, _⟩ => ⟨S256x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x8192, .f32⟩
  | .hbm, ⟨48, _⟩ => ⟨S8192x8192, .f32⟩
  | .hbm, ⟨49, _⟩ => ⟨S8192x256, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S64, .f32⟩
  | .hbm, ⟨54, _⟩ => ⟨S8192x1, .i32⟩
  | .hbm, ⟨55, _⟩ => ⟨S64, .f32⟩
  | .hbm, ⟨56, _⟩ => ⟨S_, .f32⟩
  | .hbm, ⟨57, _⟩ => ⟨S64x256, .f32⟩
  | .hbm, ⟨58, _⟩ => ⟨S8192x1, .i32⟩
  | .hbm, ⟨59, _⟩ => ⟨S64x256, .f32⟩
  | .hbm, ⟨60, _⟩ => ⟨S1x8192, .i32⟩
  | .hbm, ⟨61, _⟩ => ⟨S64, .i32⟩
  | .hbm, ⟨62, _⟩ => ⟨S64x1, .i32⟩
  | .hbm, ⟨63, _⟩ => ⟨S64x8192, .i32⟩
  | .hbm, ⟨64, _⟩ => ⟨S64x8192, .i32⟩
  | .hbm, ⟨65, _⟩ => ⟨S64x8192, .i1⟩
  | .hbm, ⟨66, _⟩ => ⟨S64x8192x1, .i1⟩
  | .hbm, ⟨67, _⟩ => ⟨S1x8192x256, .f32⟩
  | .hbm, ⟨68, _⟩ => ⟨S_, .f32⟩
  | .hbm, ⟨69, _⟩ => ⟨S_, .f32⟩
  | .hbm, ⟨70, _⟩ => ⟨S64x8192x256, .i1⟩
  | .hbm, ⟨71, _⟩ => ⟨S64x8192x256, .f32⟩
  | .hbm, ⟨72, _⟩ => ⟨S64x8192x256, .f32⟩
  | .hbm, ⟨73, _⟩ => ⟨S64x8192x256, .f32⟩
  | .hbm, ⟨74, _⟩ => ⟨S_, .f32⟩
  | .hbm, ⟨75, _⟩ => ⟨S64x256, .f32⟩
  | .hbm, ⟨76, _⟩ => ⟨S_, .f32⟩
  | .hbm, ⟨77, _⟩ => ⟨S64, .f32⟩
  | .hbm, ⟨78, _⟩ => ⟨S64, .i1⟩
  | .hbm, ⟨79, _⟩ => ⟨S64x1, .i1⟩
  | .hbm, ⟨80, _⟩ => ⟨S_, .f32⟩
  | .hbm, ⟨81, _⟩ => ⟨S_, .f32⟩
  | .hbm, ⟨82, _⟩ => ⟨S64x256, .i1⟩
  | .hbm, ⟨83, _⟩ => ⟨S64x256, .f32⟩
  | .hbm, ⟨84, _⟩ => ⟨S64x256, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S64x1, .f32⟩
  | .hbm, ⟨89, _⟩ => ⟨S64x256, .f32⟩
  | .hbm, ⟨90, _⟩ => ⟨S64x256, .f32⟩
  | .hbm, ⟨91, _⟩ => ⟨S_, .f32⟩
  | .hbm, ⟨92, _⟩ => ⟨S_, .f32⟩
  | .hbm, ⟨93, _⟩ => ⟨S64x256, .i1⟩
  | .hbm, ⟨94, _⟩ => ⟨S64x256, .f32⟩
  | .hbm, ⟨95, _⟩ => ⟨S64x256, .f32⟩
  | .hbm, ⟨96, _⟩ => ⟨S64x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_9 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]
-- ==== Proof.Range.lean ====
/-
  What the preconditions say of the batch words.
-/
module

public import proofs.«01_k».proof.Pre_batch_in_range
public import Idealize.ShloMosaic.Lib.Pointwise

@[expose] public section

namespace Cert.Range

open Idealize.ShloMosaic

/-- A word that is signed at least nought and under 64 is under 64. -/
theorem toNat_lt {w : BitVec 32} (h : BitVec.ofBool ((0#32).sle w) &&& BitVec.ofBool (w.slt 64#32) = 1#1) : w.toNat < 64 := by
  rcases h0 : (0#32).sle w with _ | _
  · rw [h0] at h; rcases h1 : w.slt 64#32 with _ | _ <;> rw [h1] at h <;> exact absurd h (by decide)
  · rcases h1 : w.slt 64#32 with _ | _
    · rw [h0, h1] at h; exact absurd h (by decide)
    · simp only [BitVec.sle, BitVec.slt, decide_eq_true_eq] at h0 h1
      have e0 : (0#32).toInt = 0 := by decide
      have e1 : (64#32).toInt = 64 := by decide
      rw [e0] at h0
      rw [e1] at h1
      have := BitVec.toInt_eq_toNat_cond w
      have hw := w.isLt
      split at this <;> omega

/-- The first precondition, read at a word. -/
theorem lt_of_pre {F : FTy → Type} [FloatOps F] [Cert.Pre_batch_in_range.Facts] {a0 a1 a2 a3 a4 a5 a6 a7 a8} {a9 : IVec Cert.Pre_batch_in_range.S8192 32}
    (h : Cert.Pre_batch_in_range.fn (F := F) a0 a1 a2 a3 a4 a5 a6 a7 a8 a9 = fun _ => 1#1) (j : Cert.Pre_batch_in_range.S8192.Idx) : (a9 j).toNat < 64 :=
  toNat_lt (congrFun h j)

end Cert.Range
-- ==== Proof.Words.lean ====
/-
  Facts about the two segment numbers that bound a segment-maximum loop: with both below 64 the loop has a meaning, every
  trip's slab lies inside the table of 64 slabs, and the remainder loop behind it makes no trip.
-/
module

public import Idealize.ShloMosaic.Lib.LoopRemainder

@[expose] public section

namespace Cert.Words

open Idealize.ShloMosaic

/-- The main loop over the segments from `lo` to `hi`, as the kernel computes its bounds. -/
@[reducible] def segLoop (lo hi : BitVec 32) : Scf.Loop 32 :=
  ⟨lo, Scalar.addi lo (Scalar.muli (Scalar.divsi (Scalar.subi (Scalar.addi hi 1#32) lo) 1#32) 1#32), 1#32⟩

/-- The remainder loop behind it. -/
@[reducible] def remLoop (lo hi : BitVec 32) : Scf.Loop 32 :=
  ⟨Scalar.addi lo (Scalar.muli (Scalar.divsi (Scalar.subi (Scalar.addi hi 1#32) lo) 1#32) 1#32),
    Scalar.addi lo (Scalar.subi (Scalar.addi hi 1#32) lo), 1#32⟩

/-- The main loop's upper bound is one past `hi`. -/
theorem segLoop_ub (lo hi : BitVec 32) : (segLoop lo hi).ub = hi + 1#32 := by
  show Scalar.addi lo _ = _
  rw [Scalar.muli_divsi_one]
  show lo + (hi + 1#32 - lo) = _
  rw [BitVec.add_comm, BitVec.sub_add_cancel]

/-- A word below 64 reads the same signed and unsigned. -/
theorem toInt_small {a : BitVec 32} (h : a.toNat < 64) : a.toInt = a.toNat :=
  BitVec.toInt_eq_toNat_of_lt (by omega)

/-- The next of a small word, as a number. -/
theorem toInt_succ {a : BitVec 32} (h : a.toNat < 64) : (a + 1#32).toInt = a.toNat + 1 := by
  have h1 : (a + 1#32).toNat = a.toNat + 1 := by
    rw [BitVec.toNat_add]; simp; omega
  rw [BitVec.toInt_eq_toNat_of_lt (by omega), h1]; rfl

/-- The main loop's trips: the segments from `lo` to `hi`, none if `hi < lo`. -/
theorem segLoop_trips {lo hi : BitVec 32} (hl : lo.toNat < 64) (hh : hi.toNat < 64) :
    (segLoop lo hi).trips = hi.toNat + 1 - lo.toNat := by
  have h1 : (1#32 : BitVec 32).toInt = 1 := by decide
  show Scf.trips lo (segLoop lo hi).ub 1#32 = _
  unfold Scf.trips
  rw [segLoop_ub, h1, toInt_small hl, toInt_succ hh]
  omega

/-- The main loop has a meaning. -/
theorem segLoop_ok {lo hi : BitVec 32} (hl : lo.toNat < 64) (hh : hi.toNat < 64) : (segLoop lo hi).OK := by
  have h1 : (1#32 : BitVec 32).toInt = 1 := by decide
  have ht := segLoop_trips hl hh
  refine ⟨by show 0 < (1#32 : BitVec 32).toInt; omega, ?_⟩
  show lo.toInt + ((segLoop lo hi).trips : Int) * (1#32 : BitVec 32).toInt < _
  rw [h1, ht, toInt_small hl]
  omega

/-- At trip `k` the main loop is at segment `lo + k`. -/
theorem iv_toNat {lo : BitVec 32} {k : ℕ} (h : lo.toNat + k < 2 ^ 32) : (Scf.iv lo 1#32 k).toNat = lo.toNat + k := by
  unfold Scf.iv
  rw [BitVec.mul_one, BitVec.toNat_add, BitVec.toNat_ofNat]
  omega

/-- Every trip of the main loop is at a segment below 64. -/
theorem iv_lt {lo hi : BitVec 32} (hl : lo.toNat < 64) (hh : hi.toNat < 64) (k : Fin (segLoop lo hi).trips) :
    (Scf.iv lo 1#32 k).toNat = lo.toNat + k ∧ lo.toNat + k < 64 := by
  have ht := segLoop_trips hl hh
  have hk : k.val < hi.toNat + 1 - lo.toNat := ht ▸ k.isLt
  exact ⟨iv_toNat (by omega), by omega⟩

/-- What the kernel assumes of the two segment numbers it has read, whichever loop it is about to run. -/
theorem chk {lo hi : BitVec 32} {C : Prop} (hl : lo.toNat < 64) (hh : hi.toNat < 64) :
    (C → (segLoop lo hi).OK)
    ∧ (∀ k : Fin (segLoop lo hi).trips, C → ∀ a : Fin 3,
        (![(Scf.iv lo 1#32 k).toNat, 0, 0] : Fin 3 → ℕ) a + (![1, 1, 256] : Fin 3 → ℕ) a ≤ (![64, 1, 256] : Fin 3 → ℕ) a)
    ∧ (C → (remLoop lo hi).OK)
    ∧ (∀ k : Fin (remLoop lo hi).trips, C → ∀ a : Fin 3,
        (![(Scf.iv (remLoop lo hi).lb 1#32 k).toNat, 0, 0] : Fin 3 → ℕ) a + (![1, 1, 256] : Fin 3 → ℕ) a ≤ (![64, 1, 256] : Fin 3 → ℕ) a) := by
  refine ⟨fun _ => segLoop_ok hl hh, fun k _ a => ?_, fun _ => Scf.rem_ok _ _, fun k => (Scf.rem_no_trip _ _ k).elim⟩
  obtain ⟨h1, h2⟩ := iv_lt hl hh k
  fin_cases a
  · show (Scf.iv lo 1#32 k).toNat + 1 ≤ 64
    omega
  · show 0 + 1 ≤ 1; omega
  · show 0 + 256 ≤ 256; omega

end Cert.Words

end
-- ==== Proof.Slab.lean ====
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Claim
public import Idealize.ShloMosaic.Lib.Tactic
public import Idealize.ShloMosaic.Lib.WritesUnit
public import Idealize.ShloMosaic.Lib.VecWindow
public import proofs.«01_k».proof.Proof.Words

@[expose] public section

set_option maxRecDepth 16384

noncomputable section

namespace Cert.KernelIdeal.Slab

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a trip at segment `b` stores over the slab's contents `cur`: the larger of them and the maximum, over the rows of the
    sub-block `a` whose segment number in `s` is `b`, of the row. -/
def slabPay (a : FVec F S128x256 .f32) (s : IVec S128x1 32) (b : BitVec 32) (cur : Vec F S1x1x256 .f32) : FVec F S1x1x256 .f32 :=
  shapeCast S1x1x256 (maximumf cur (shapeCast S1x1x256 (shapeCast S1x256
    (multiReduction .maximumf [0] S256
      (select (broadcastTo S128x256 (shapeCast S128x1 (cmpi .eq s (broadcast S128x1 b)) shapeCasts_S128x1_S128x1) broadcasts_S128x1_S128x256) a
        (broadcast S128x256 (Scalar.ofBits .f32 0xFF800000#32 : F .f32)))
      0xFF800000#32 reduces_S128x256_S256 (.inl rfl) rfl) shapeCasts_S256_S1x256) shapeCasts_S1x256_S1x1x256)) shapeCasts_S1x1x256_S1x1x256

/-- Trip `k`'s slab lies in the table. -/
abbrev SlabIn (lo : BitVec 32) (k : ℕ) : Prop :=
  ∀ d : Fin 3, (![(Scf.iv lo 1#32 k).toNat, 0, 0] : Fin 3 → ℕ) d + S1x1x256.size d ≤ S64x1x256.size d

/-- Trip `k`'s slab. -/
abbrev slabRect (lo : BitVec 32) (k : ℕ) (h : SlabIn lo k) : Rect S64x1x256 :=
  Rect.unit (s := S64x1x256) ![(Scf.iv lo 1#32 k).toNat, 0, 0] S1x1x256.size h

/-- One trip of a segment-maximum loop: the slab of the trip's segment is read and stored back with the sub-block's rows of
    that segment taken into its maximum. -/
def slabTrip (arg19 : Memref sig .tc .vmem S64x1x256 .f32) (a : FVec F S128x256 .f32) (s : IVec S128x1 32) (lo hi : BitVec 32)
    (inb : ∀ k : Fin (Cert.Words.segLoop lo hi).trips, SlabIn lo k) :
    Fin (Cert.Words.segLoop lo hi).trips → Unit → Prog (TpuEff nD τ sig (Elt F) Λ₀ .tc) Unit :=
  fun k _ => do
    let v : Vec F S1x1x256 .f32 ← Prog.lift (.load arg19 (slabRect lo k (inb k)).toLoadRect (View.loadsAt_vmem h_S1x1x256))
    let _w : Vec F S1x1x256 .f32 ← Prog.lift (.load arg19 (slabRect lo k (inb k)).toLoadRect (View.loadsAt_vmem h_S1x1x256))
    Prog.lift (.store arg19 (slabRect lo k (inb k)) (slabPay a s (Scf.iv lo 1#32 k) v) Finset.univ (View.stores_vmem_bits_univ h_S1x1x256 rfl) (.inl rfl))
    pure ⟨⟩

/-- The table's contents after `k` trips, from contents `f`. -/
def slabRun (arg19 : Memref sig .tc .vmem S64x1x256 .f32) (a : FVec F S128x256 .f32) (s : IVec S128x1 32) (lo : BitVec 32)
    (f : BufTy.Contents (Elt F) arg19.view.ty) : ℕ → BufTy.Contents (Elt F) arg19.view.ty
  | 0 => f
  | k + 1 => if h : SlabIn lo k then
      arg19.view.writes (Elt F) (slabRun arg19 a s lo f k)
        [⟨slabRect lo k h, slabPay a s (Scf.iv lo 1#32 k) (View.readAt (Elt F) arg19.view (slabRect lo k h).toLoadRect (slabRun arg19 a s lo f k))⟩]
    else slabRun arg19 a s lo f k

/-- One more trip. -/
theorem slabRun_succ (arg19 : Memref sig .tc .vmem S64x1x256 .f32) (a : FVec F S128x256 .f32) (s : IVec S128x1 32) (lo : BitVec 32)
    (f : BufTy.Contents (Elt F) arg19.view.ty) (k : ℕ) (h : SlabIn lo k) :
    slabRun arg19 a s lo f (k + 1) = arg19.view.writes (Elt F) (slabRun arg19 a s lo f k)
        [⟨slabRect lo k h, slabPay a s (Scf.iv lo 1#32 k) (View.readAt (Elt F) arg19.view (slabRect lo k h).toLoadRect (slabRun arg19 a s lo f k))⟩] := by
  rw [slabRun]; exact dif_pos h

set_option warn.classDefReducibility false in
/-- The loop by its invariant: before trip `k` the table holds `slabRun … k` of the contents the loop found. -/
@[sl_loop] def slabLoop (𝒱 : Variants) (c : Dev nD) (bd : Option 𝒱.V) (E : Set ℕ)
    (arg19 : Memref sig .tc .vmem S64x1x256 .f32) (a : FVec F S128x256 .f32) (s : IVec S128x1 32) (lo hi : BitVec 32)
    (ok : (Cert.Words.segLoop lo hi).OK) (inb : ∀ k : Fin (Cert.Words.segLoop lo hi).trips, SlabIn lo k)
    (f : BufTy.Contents (Elt F) arg19.view.ty) :
    Idealize.ShloMosaic.LoopInv (M := 𝕄) Idealize.ShloMosaic.frame (wpE (defs₀ (F := F)) 𝒱 (c : Thread nD τ) bd) E
      (Cert.Words.segLoop lo hi).lb (Cert.Words.segLoop lo hi).ub (Cert.Words.segLoop lo hi).st ok () (slabTrip (F := F) arg19 a s lo hi inb) where
  inv k _ := iprop(∃ g, (arg19.view.loc (c : Thread nD τ) ↦[arg19.view.set]{fullShare} g)
    ∗ ⌜g = ((Nat.rec (fun g => g) (fun k' _ g => slabRun arg19 a s lo g (k' + 1)) k : BufTy.Contents (Elt F) arg19.view.ty → BufTy.Contents (Elt F) arg19.view.ty) f)⌝)
  step k acc := by
    iintro ⟨%g, H, %hg⟩
    unfold slabTrip
    sl_exec
    sl_step
    iexists _
    isplitl
    · iexact H
    · ipureintro
      have hk : ((Nat.rec (fun g => g) (fun k' _ g => slabRun arg19 a s lo g (k' + 1)) k.val : BufTy.Contents (Elt F) arg19.view.ty → BufTy.Contents (Elt F) arg19.view.ty) f) = slabRun arg19 a s lo f k.val := by
        cases k.val <;> rfl
      rw [hk] at hg
      rw [hg]
      exact (slabRun_succ arg19 a s lo f k (inb k)).symm

/-- Column `q` of a slab. -/
def colIx (q : Fin 256) : S1x1x256.Idx := Fin.cons (0 : Fin 1) (Fin.cons (0 : Fin 1) (Fin.cons q (fun z => z.elim0)))

/-- Column `q` of slab `b` of a table. -/
def tabIx (b : ℕ) (q : Fin 256) : S64x1x256.Idx :=
  Fin.cons (Fin.ofNat 64 b) (Fin.cons (0 : Fin 1) (Fin.cons q (fun z => z.elim0)))

/-- Slab `b` of a table. -/
def slabOf {α : Type} (g : S64x1x256.Idx → α) (b : ℕ) : S1x1x256.Idx → α :=
  fun y => g (tabIx b (y 2))

/-- The table `g` with the sub-block `a` taken into the slabs `lo` to `lo + n - 1`. -/
def tabMax (a : FVec F S128x256 .f32) (s : IVec S128x1 32) (lo n : ℕ) (g : Vec F S64x1x256 .f32) : Vec F S64x1x256 .f32 :=
  fun j => if lo ≤ (j 0).val ∧ (j 0).val < lo + n then
      slabPay a s (BitVec.ofNat 32 (j 0).val) (slabOf g (j 0).val) (colIx (j 2))
    else g j

/-- What the table reads as after `n` trips. -/
theorem read_slabRun (arg19 : Memref sig .tc .vmem S64x1x256 .f32) (a : FVec F S128x256 .f32) (s : IVec S128x1 32) (lo : BitVec 32)
    (f : BufTy.Contents (Elt F) arg19.view.ty) (n : ℕ) (hn : lo.toNat + n ≤ 64) :
    arg19.view.read (Elt F) (slabRun arg19 a s lo f n) = tabMax a s lo.toNat n (arg19.view.read (Elt F) f) := by
  induction n with
  | zero => funext j; exact (if_neg (by omega)).symm
  | succ n ih =>
    have hiv : (Scf.iv lo 1#32 n).toNat = lo.toNat + n := Cert.Words.iv_toNat (by omega)
    have hin : SlabIn lo n := by
      intro d
      fin_cases d
      · show (Scf.iv lo 1#32 n).toNat + 1 ≤ 64; omega
      · show 0 + 1 ≤ 1; omega
      · show 0 + 256 ≤ 256; omega
    have ih := ih (by omega)
    rw [slabRun_succ arg19 a s lo f n hin]
    funext j
    have hj1 : (j 1).val < 1 := (j 1).isLt
    have hj2 : (j 2).val < 256 := (j 2).isLt
    by_cases h : (j 0).val = lo.toNat + n
    · have hbv : Scf.iv lo 1#32 n = BitVec.ofNat 32 (j 0).val := by
        apply BitVec.eq_of_toNat_eq; rw [hiv, BitVec.toNat_ofNat, h]; omega
      refine (View.read_writes_cons_unit_of_mem arg19.view _ _ _ [] j (show S1x1x256.Idx from colIx (j 2)) rfl ?_).trans ?_
      · intro d
        fin_cases d
        · show (j 0).val = (Scf.iv lo 1#32 n).toNat + 0; omega
        · show (j 1).val = 0 + 0; omega
        · show (j 2).val = 0 + (j 2).val; omega
      · have hcur : View.readAt (Elt F) arg19.view (slabRect lo n hin).toLoadRect (slabRun arg19 a s lo f n) = slabOf (arg19.view.read (Elt F) f) (j 0).val := by
          rw [View.readAt_eq_ld, ih]
          funext y
          have hy0 : (y 0).val < 1 := (y 0).isLt
          have hy1 : (y 1).val < 1 := (y 1).isLt
          have hix : (slabRect lo n hin).idx y = tabIx (j 0).val (show Fin 256 from y 2) := by
            funext d
            apply Fin.ext
            have h64 : (j 0).val < 64 := (j 0).isLt
            fin_cases d
            · show (Scf.iv lo 1#32 n).toNat + 1 * (y 0).val = (j 0).val % 64; omega
            · show 0 + 1 * (y 1).val = 0; omega
            · show 0 + 1 * (y 2).val = (y 2).val; omega
          show tabMax a s lo.toNat n _ ((slabRect lo n hin).idx y) = _
          rw [hix]
          refine if_neg ?_
          show ¬ (lo.toNat ≤ (j 0).val % 64 ∧ (j 0).val % 64 < lo.toNat + n)
          have h64 : (j 0).val < 64 := (j 0).isLt
          omega
        rw [hcur, hbv]
        exact (if_pos (by omega)).symm
    · refine (View.read_writes_cons_unit_of_not_mem arg19.view _ _ _ [] j rfl 0 ?_).trans ?_
      · show (j 0).val < (Scf.iv lo 1#32 n).toNat ∨ (Scf.iv lo 1#32 n).toNat + 1 ≤ (j 0).val; omega
      · rw [View.writes_nil, ih]
        unfold tabMax
        by_cases h' : lo.toNat ≤ (j 0).val ∧ (j 0).val < lo.toNat + n
        · rw [if_pos h', if_pos (by omega)]
        · rw [if_neg h', if_neg (by omega)]

/-- What the table reads as after the whole loop, from what it read as before it. -/
theorem read_slabLoop (arg19 : Memref sig .tc .vmem S64x1x256 .f32) (a : FVec F S128x256 .f32) (s : IVec S128x1 32) (lo hi : BitVec 32)
    (hl : lo.toNat < 64) (hh : hi.toNat < 64) (f : BufTy.Contents (Elt F) arg19.view.ty) (n : ℕ) (hn : n = (Cert.Words.segLoop lo hi).trips) :
    arg19.view.read (Elt F) ((Nat.rec (fun g => g) (fun k' _ g => slabRun arg19 a s lo g (k' + 1)) n :
        BufTy.Contents (Elt F) arg19.view.ty → BufTy.Contents (Elt F) arg19.view.ty) f)
      = tabMax a s lo.toNat (hi.toNat + 1 - lo.toNat) (arg19.view.read (Elt F) f) := by
  have hk : (Nat.rec (fun g => g) (fun k' _ g => slabRun arg19 a s lo g (k' + 1)) n :
        BufTy.Contents (Elt F) arg19.view.ty → BufTy.Contents (Elt F) arg19.view.ty) f = slabRun arg19 a s lo f n := by
    cases n <;> rfl
  rw [hk, read_slabRun _ _ _ _ _ _ (by rw [hn, Cert.Words.segLoop_trips hl hh]; omega), hn, Cert.Words.segLoop_trips hl hh]

end Cert.KernelIdeal.Slab

end
-- ==== Proof.Proj.lean ====
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Claim
public import Idealize.ShloMosaic.Lib.Tactic
public import proofs.«01_k».proof.Proof.Slab

@[expose] public section

set_option maxRecDepth 16384

noncomputable section

namespace Cert.KernelIdeal.Proj

open Cert.KernelIdeal Cert.KernelIdeal.Gen Cert.KernelIdeal.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The grid point is the first. -/
abbrev First (i : grid0.Coords) : Prop :=
  Scalar.cmpi .ne (Scalar.extui (Scalar.cmpi .eq (BitVec.ofNat 32 (i 0).val) 0#32) : BitVec 32) 0#32 = 1#1

/-- Contents owned are owned as what they read as. -/
theorem owns_mk {sp : Space} {sh : Shape} {e : EltTy} (c : Dev nD) (r : Memref sig .tc sp sh e) (f : BufTy.Contents (Elt F) r.view.ty)
    (X : sh.Idx → Elt F e) (h : r.view.read (Elt F) f = X) :
    (iprop(r.view.loc (c : Thread nD τ) ↦[r.view.set]{fullShare} f) : sProp 𝕄) ⊢ owns (c : Thread nD τ) r fullShare X := by
  unfold owns
  iintro H
  iexists f
  isplitr
  · ipureintro; exact h
  · iexact H

/-- The one index of a one-element buffer. -/
def z1 : S1.Idx := Fin.cons (0 : Fin 1) fun z => z.elim0

/-- There is one index. -/
theorem idx_S1 (z : S1.Idx) : z = z1 := by
  funext a
  fin_cases a
  apply Fin.ext
  have h : (z 0).val < 1 := (z 0).isLt
  show (z 0).val = 0
  omega

/-- The larger of `k0` and the row sums of squares of the tile's K rows. -/
def newMax (x : Vec F S2048x256 .f32) (we : Vec F S256x256 .f32) (be : Vec F S1x256 .f32) (wk : Vec F S256x256 .f32) (bk : Vec F S1x256 .f32)
    (k0 : F .f32) : Vec F S1 .f32 :=
  fun _ => k0_pay7 (k0_pay9 x we be) wk bk k0

set_option maxHeartbeats 800000 in
/-- A projection point: the tile's rows of Q, K, V and of the row sums of squares of Q are put in place and the running maximum of K's row
    sums of squares is renewed; at the first point the tables are cleared. -/
theorem proj_body (c : Dev nD) (E : Set ℕ) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x1x2048 .i32) (harg10 : arg10.IsWhole) (arg11 : Memref sig .tc .vmem S1x2048x1 .i32) (harg11 : arg11.IsWhole) (arg12 : Memref sig .tc .smem S8192 .i32) (harg12 : arg12.IsWhole) (arg13 : Memref sig .tc .vmem S64x512 .f32) (harg13 : arg13.IsWhole) (arg14 : Memref sig .tc .vmem S8192x256 .bf16) (harg14 : arg14.IsWhole) (arg15 : Memref sig .tc .vmem S8192x256 .bf16) (harg15 : arg15.IsWhole) (arg16 : Memref sig .tc .vmem S8192x256 .bf16) (harg16 : arg16.IsWhole) (arg17 : Memref sig .tc .vmem S8192x1 .f32) (harg17 : arg17.IsWhole) (arg18 : Memref sig .tc .vmem S2048x256 .f32) (harg18 : arg18.IsWhole) (arg19 : Memref sig .tc .vmem S64x1x256 .f32) (harg19 : arg19.IsWhole) (arg20 : Memref sig .tc .vmem S64x256 .f32) (harg20 : arg20.IsWhole) (arg21 : Memref sig .tc .vmem S64x1 .f32) (harg21 : arg21.IsWhole) (arg22 : Memref sig .tc .smem S1 .f32) (harg22 : arg22.IsWhole)
    (x1 : Vec F S2048x256 .f32) (x2 : Vec F S256x256 .f32) (x3 : Vec F S1x256 .f32) (x4 : Vec F S256x256 .f32) (x5 : Vec F S1x256 .f32) (x6 : Vec F S256x256 .f32) (x7 : Vec F S1x256 .f32) (x8 : Vec F S256x256 .f32) (x9 : Vec F S1x256 .f32) (q k v : Vec F S8192x256 .bf16) (n : Vec F S8192x1 .f32) (tb : Vec F S64x1x256 .f32) (sm : Vec F S64x256 .f32) (ct : Vec F S64x1 .f32) (km : Vec F S1 .f32)
    (h2 : k0_cond2 i = 1#1) (h3 : ¬ k0_cond3 i = 1#1) (h4 : ¬ k0_cond4 i = 1#1)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare q ∗ owns (c : Thread nD τ) arg15 fullShare k ∗ owns (c : Thread nD τ) arg16 fullShare v ∗ owns (c : Thread nD τ) arg17 fullShare n ∗ owns (c : Thread nD τ) arg19 fullShare tb ∗ owns (c : Thread nD τ) arg20 fullShare sm ∗ owns (c : Thread nD τ) arg21 fullShare ct ∗ owns (c : Thread nD τ) arg22 fullShare km ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg14 fullShare (VecWindow.put q (k0_off1 i) S2048x256.size (k0_pay11 x1 x2 x3 x4 x5)) ∗ owns (c : Thread nD τ) arg15 fullShare (VecWindow.put k (k0_off1 i) S2048x256.size (k0_pay5 (k0_pay9 x1 x2 x3) x6 x7)) ∗ owns (c : Thread nD τ) arg16 fullShare (VecWindow.put v (k0_off1 i) S2048x256.size (k0_pay6 (k0_pay9 x1 x2 x3) x8 x9)) ∗ owns (c : Thread nD τ) arg17 fullShare (VecWindow.put n (k0_off2 i) S2048x1.size (k0_pay12 x1 x2 x3 x4 x5)) ∗ owns (c : Thread nD τ) arg19 fullShare (if First i then k0_pay1 else tb) ∗ owns (c : Thread nD τ) arg20 fullShare (if First i then k0_pay2 else sm) ∗ owns (c : Thread nD τ) arg21 fullShare (if First i then k0_pay3 else ct) ∗ owns (c : Thread nD τ) arg22 fullShare (newMax x1 x2 x3 x6 x7 (if First i then Scalar.ofBits .f32 0#32 else km z1))) -∗ K ⟨⟩))
    ⊢ wp frame (wpE (defs₀ (F := F)) Variants.none (c : Thread nD τ) none) E (cc0_sentence_readout i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_sentence_readout_eq_skeleton]; unfold cc0_sentence_readout_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f14, %hf14, H14⟩, ⟨%f15, %hf15, H15⟩, ⟨%f16, %hf16, H16⟩, ⟨%f17, %hf17, H17⟩, ⟨%f19, %hf19, H19⟩, ⟨%f20, %hf20, H20⟩, ⟨%f21, %hf21, H21⟩, ⟨%f22, %hf22, H22⟩, HK⟩
  subst hf1 hf2 hf3 hf4 hf5 hf6 hf7 hf8 hf9 hf14 hf15 hf16 hf17 hf19 hf20 hf21 hf22
  by_cases h1 : First i
  · have e1 := h1
    sl_exec
    sl_step
    iapply HK
    isplitl [H1]
    · iexists _; isplitr
      swap; · iexact H1
      ipureintro
      rfl
    isplitl [H2]
    · iexists _; isplitr
      swap; · iexact H2
      ipureintro
      rfl
    isplitl [H3]
    · iexists _; isplitr
      swap; · iexact H3
      ipureintro
      rfl
    isplitl [H4]
    · iexists _; isplitr
      swap; · iexact H4
      ipureintro
      rfl
    isplitl [H5]
    · iexists _; isplitr
      swap; · iexact H5
      ipureintro
      rfl
    isplitl [H6]
    · iexists _; isplitr
      swap; · iexact H6
      ipureintro
      rfl
    isplitl [H7]
    · iexists _; isplitr
      swap; · iexact H7
      ipureintro
      rfl
    isplitl [H8]
    · iexists _; isplitr
      swap; · iexact H8
      ipureintro
      rfl
    isplitl [H9]
    · iexists _; isplitr
      swap; · iexact H9
      ipureintro
      rfl
    isplitl [H14]
    · iexists _; isplitr
      swap; · iexact H14
      ipureintro
      try unfold proj_body.sl.r_1
      try unfold proj_body.sl.r_2
      try unfold proj_body.sl.r_3
      try unfold proj_body.sl.r_4
      try unfold proj_body.sl.r_5
      rw [View.read_writes_cons_put _ _ _ _ _ rfl, View.writes_nil]
      repeat rw [View.readAt_full]
    isplitl [H15]
    · iexists _; isplitr
      swap; · iexact H15
      ipureintro
      try unfold proj_body.sl.r_1
      try unfold proj_body.sl.r_2
      try unfold proj_body.sl.r_3
      try unfold proj_body.sl.r_4
      try unfold proj_body.sl.r_5
      rw [View.read_writes_cons_put _ _ _ _ _ rfl, View.writes_nil]
      repeat rw [View.readAt_full]
    isplitl [H16]
    · iexists _; isplitr
      swap; · iexact H16
      ipureintro
      try unfold proj_body.sl.r_1
      try unfold proj_body.sl.r_2
      try unfold proj_body.sl.r_3
      try unfold proj_body.sl.r_4
      try unfold proj_body.sl.r_5
      rw [View.read_writes_cons_put _ _ _ _ _ rfl, View.writes_nil]
      repeat rw [View.readAt_full]
    isplitl [H17]
    · iexists _; isplitr
      swap; · iexact H17
      ipureintro
      try unfold proj_body.sl.r_1
      try unfold proj_body.sl.r_2
      try unfold proj_body.sl.r_3
      try unfold proj_body.sl.r_4
      try unfold proj_body.sl.r_5
      rw [View.read_writes_cons_put _ _ _ _ _ rfl, View.writes_nil]
      repeat rw [View.readAt_full]
    isplitl [H19]
    · iexists _; isplitr
      swap; · iexact H19
      ipureintro
      rw [if_pos h1, View.read_writes_full]
    isplitl [H20]
    · iexists _; isplitr
      swap; · iexact H20
      ipureintro
      rw [if_pos h1, View.read_writes_full]
    isplitl [H21]
    · iexists _; isplitr
      swap; · iexact H21
      ipureintro
      rw [if_pos h1, View.read_writes_full]
    iexists _; isplitr
    swap; · iexact H22
    ipureintro
    rw [if_pos h1, View.read_writes_full]
    unfold newMax
    try unfold proj_body.sl.r_1
    try unfold proj_body.sl.r_2
    try unfold proj_body.sl.r_3
    try unfold proj_body.sl.r_4
    try unfold proj_body.sl.r_5
    repeat rw [View.readAt_full]
    unfold proj_body.sl.cst_13; rfl
  · have e1 := h1
    sl_exec
    sl_step
    iapply HK
    isplitl [H1]
    · iexists _; isplitr
      swap; · iexact H1
      ipureintro
      rfl
    isplitl [H2]
    · iexists _; isplitr
      swap; · iexact H2
      ipureintro
      rfl
    isplitl [H3]
    · iexists _; isplitr
      swap; · iexact H3
      ipureintro
      rfl
    isplitl [H4]
    · iexists _; isplitr
      swap; · iexact H4
      ipureintro
      rfl
    isplitl [H5]
    · iexists _; isplitr
      swap; · iexact H5
      ipureintro
      rfl
    isplitl [H6]
    · iexists _; isplitr
      swap; · iexact H6
      ipureintro
      rfl
    isplitl [H7]
    · iexists _; isplitr
      swap; · iexact H7
      ipureintro
      rfl
    isplitl [H8]
    · iexists _; isplitr
      swap; · iexact H8
      ipureintro
      rfl
    isplitl [H9]
    · iexists _; isplitr
      swap; · iexact H9
      ipureintro
      rfl
    isplitl [H14]
    · iexists _; isplitr
      swap; · iexact H14
      ipureintro
      try unfold proj_body.sl.r_1
      try unfold proj_body.sl.r_2
      try unfold proj_body.sl.r_3
      try unfold proj_body.sl.r_4
      try unfold proj_body.sl.r_5
      rw [View.read_writes_cons_put _ _ _ _ _ rfl, View.writes_nil]
      repeat rw [View.readAt_full]
    isplitl [H15]
    · iexists _; isplitr
      swap; · iexact H15
      ipureintro
      try unfold proj_body.sl.r_1
      try unfold proj_body.sl.r_2
      try unfold proj_body.sl.r_3
      try unfold proj_body.sl.r_4
      try unfold proj_body.sl.r_5
      rw [View.read_writes_cons_put _ _ _ _ _ rfl, View.writes_nil]
      repeat rw [View.readAt_full]
    isplitl [H16]
    · iexists _; isplitr
      swap; · iexact H16
      ipureintro
      try unfold proj_body.sl.r_1
      try unfold proj_body.sl.r_2
      try unfold proj_body.sl.r_3
      try unfold proj_body.sl.r_4
      try unfold proj_body.sl.r_5
      rw [View.read_writes_cons_put _ _ _ _ _ rfl, View.writes_nil]
      repeat rw [View.readAt_full]
    isplitl [H17]
    · iexists _; isplitr
      swap; · iexact H17
      ipureintro
      try unfold proj_body.sl.r_1
      try unfold proj_body.sl.r_2
      try unfold proj_body.sl.r_3
      try unfold proj_body.sl.r_4
      try unfold proj_body.sl.r_5
      rw [View.read_writes_cons_put _ _ _ _ _ rfl, View.writes_nil]
      repeat rw [View.readAt_full]
    isplitl [H19]
    · iexists _; isplitr
      swap; · iexact H19
      ipureintro
      rw [if_neg h1]
    isplitl [H20]
    · iexists _; isplitr
      swap; · iexact H20
      ipureintro
      rw [if_neg h1]
    isplitl [H21]
    · iexists _; isplitr
      swap; · iexact H21
      ipureintro
      rw [if_neg h1]
    iexists _; isplitr
    swap; · iexact H22
    ipureintro
    rw [if_neg h1, View.read_writes_full]
    unfold newMax
    try unfold proj_body.sl.r_1
    try unfold proj_body.sl.r_2
    try unfold proj_body.sl.r_3
    try unfold proj_body.sl.r_4
    try unfold proj_body.sl.r_5
    repeat rw [View.readAt_full]
    rw [idx_S1 (Shape.Idx.first _)]; rfl

end Cert.KernelIdeal.Proj

end
-- ==== Proof.Rows.lean ====
/-
  Rows of a matrix and entries of a list of words, by their numbers, and how loads and slices read them.
-/
module

public import Idealize.ShloMosaic.Lib.Pointwise
public import Idealize.ShloMosaic.Lib.VecWindow

@[expose] public section

namespace Cert.Rows

open Idealize.ShloMosaic

/-- Rows `o` to `o + n - 1` of a matrix. -/
def rowsOf {α : Type} {N w : ℕ} [NeZero N] (n o : ℕ) (X : (⟨2, ![N, w]⟩ : Shape).Idx → α) : (⟨2, ![n, w]⟩ : Shape).Idx → α :=
  fun j => X (ix2 (n0 := N) (n1 := w) (Fin.ofNat N (o + (j 0).val)) (j 1))

/-- Entry `p` of a list. -/
def entry {α : Type} {N : ℕ} [NeZero N] (X : (⟨1, ![N]⟩ : Shape).Idx → α) (p : ℕ) : α := X (ix1 (n0 := N) (Fin.ofNat N p))

variable {sig : RefSig} {κ : Kind} {sp : Space} {e : EltTy} {Val : EltTy → Type}

/-- A load of whole rows reads those rows. -/
theorem read_rows {N w n : ℕ} [NeZero N] (v : View sig κ sp (⟨2, ![N, w]⟩ : Shape) e) (f : v.ty.Contents Val) {off : Fin 2 → ℕ}
    (inb : ∀ a : Fin 2, off a + (![n, w] : Fin 2 → ℕ) a ≤ (![N, w] : Fin 2 → ℕ) a) {o : ℕ} (ho : off 0 = o) :
    v.readAt Val (Rect.unit (s := ⟨2, ![N, w]⟩) off ![n, w] inb).toLoadRect f = rowsOf n o (v.read Val f) := by
  funext y
  have h0 : off 0 + n ≤ N := inb 0
  have h1 : off 1 + w ≤ w := inb 1
  refine congrArg (v.read Val f) ?_
  funext a
  apply Fin.ext
  have hy : (y 0).val < n := (y 0).isLt
  match a with
  | ⟨0, _⟩ =>
    show off 0 + 1 * (y 0).val = (o + (y 0).val) % N
    rw [Nat.mod_eq_of_lt (by omega)]; omega
  | ⟨1, _⟩ =>
    show off 1 + 1 * (y 1).val = (y 1).val
    omega

/-- A slice of whole rows of `X` is those rows of any `Y` equal to it. -/
theorem slice_rows {α : Type} {N w n : ℕ} [NeZero N] {X Y : (⟨2, ![N, w]⟩ : Shape).Idx → α} (hXY : X = Y) {o p : ℕ} (hp : o = p)
    (h : (⟨2, ![N, w]⟩ : Shape).Slices ![o, 0] (⟨2, ![n, w]⟩ : Shape)) :
    extractStridedSlice (⟨2, ![n, w]⟩ : Shape) ![o, 0] X h = rowsOf n p Y := by
  subst hXY hp
  funext y
  refine congrArg X ?_
  funext a
  apply Fin.ext
  have h0 : o + n ≤ N := h.2 0
  have hy : (y 0).val < n := (y 0).isLt
  match a with
  | ⟨0, _⟩ =>
    show o + (y 0).val = (o + (y 0).val) % N
    rw [Nat.mod_eq_of_lt (by omega)]
  | ⟨1, _⟩ =>
    show 0 + (y 1).val = (y 1).val
    omega

/-- A load of one word reads that entry. -/
theorem read_entry {N : ℕ} [NeZero N] (v : View sig κ sp (⟨1, ![N]⟩ : Shape) e) (f : v.ty.Contents Val) {off : Fin 1 → ℕ}
    (inb : ∀ a : Fin 1, off a + (![1] : Fin 1 → ℕ) a ≤ (![N] : Fin 1 → ℕ) a) {p : ℕ} (hp : off 0 = p)
    (h : 0 < (Rect.unit (s := ⟨1, ![N]⟩) off ![1] inb).toLoadRect.shape.numel) :
    v.readAt Val (Rect.unit (s := ⟨1, ![N]⟩) off ![1] inb).toLoadRect f (Shape.Idx.first h) = entry (v.read Val f) p := by
  have h0 : off 0 + 1 ≤ N := inb 0
  refine congrArg (v.read Val f) ?_
  funext a
  apply Fin.ext
  match a with
  | ⟨0, _⟩ =>
    show off 0 + 1 * 0 = p % N
    rw [Nat.mod_eq_of_lt (by omega)]; omega

end Cert.Rows
-- ==== Proof.Att.lean ====
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Claim
public import Idealize.ShloMosaic.Lib.Tactic
public import proofs.«01_k».proof.Proof.Slab
public import proofs.«01_k».proof.Proof.Proj
public import proofs.«01_k».proof.Proof.Rows

@[expose] public section

set_option maxRecDepth 16384

noncomputable section

namespace Cert.KernelIdeal.Att

open Cert.Rows Cert.KernelIdeal Cert.KernelIdeal.Proj Cert.KernelIdeal.Gen Cert.KernelIdeal.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The weights of one chunk of keys: two to the scores less the bound. -/
def chunkP (q : FVec F S2048x256 .bf16) (b : FVec F S2048x1 .f32) (k : FVec F S512x256 .bf16) : FVec F S2048x512 .f32 :=
  exp2 (subf (matmul dot_S2048x256_S512x256_S2048x512_1_1_0_0_n_n none q k (constant S2048x512 .f32 0x00000000#32))
    (broadcastTo S2048x512 b broadcasts_S2048x1_S2048x512))

/-- The weights' sums after `n` chunks. -/
def attL (q : FVec F S2048x256 .bf16) (b : FVec F S2048x1 .f32) (kc : ℕ → FVec F S512x256 .bf16) : ℕ → FVec F S2048x1 .f32
  | 0 => broadcast S2048x1 (Scalar.ofBits .f32 0x00000000#32 : F .f32)
  | n + 1 => addf (attL q b kc n) (shapeCast S2048x1
      (multiReduction .add [1] S2048 (chunkP q b (kc n)) 0x00000000#32 reduces_S2048x512_S2048 (.inl rfl) rfl) shapeCasts_S2048_S2048x1)

/-- The weighted sums of the values after `n` chunks. -/
def attA (q : FVec F S2048x256 .bf16) (b : FVec F S2048x1 .f32) (kc vc : ℕ → FVec F S512x256 .bf16) : ℕ → FVec F S2048x256 .f32
  | 0 => broadcast S2048x256 (Scalar.ofBits .f32 0x00000000#32 : F .f32)
  | n + 1 => addf (attA q b kc vc n) (matmul dot_S2048x512_S512x256_S2048x256_1_0_0_1_n_n none
      (truncf .bf16 (chunkP q b (kc n)) bitsLt_bf16_f32) (vc n) (constant S2048x256 .f32 0x00000000#32))

/-- The attention of one tile of queries: the weighted sums over all 16 chunks, divided by the weights' sums. -/
def attTile (q : FVec F S2048x256 .bf16) (n : FVec F S2048x1 .f32) (km : F .f32) (k v : FVec F S8192x256 .bf16) : FVec F S2048x256 .f32 :=
  shapeCast S2048x256 (divf (attA q (k0_pay13 n km) (fun j => rowsOf 512 (512 * j) k) (fun j => rowsOf 512 (512 * j) v) 16)
    (broadcastTo S2048x256 (attL q (k0_pay13 n km) (fun j => rowsOf 512 (512 * j) k) 16) broadcasts_S2048x1_S2048x256)) shapeCasts_S2048x256_S2048x256

/-- The table after `u` of a tile's sub-blocks of 128 rows, the tile starting at entry `p` of the segment numbers `wd`. -/
def tabTile (att : FVec F S2048x256 .f32) (sc : IVec S2048x1 32) (wd : ℕ → BitVec 32) (p : ℕ) : ℕ → Vec F S64x1x256 .f32 → Vec F S64x1x256 .f32
  | 0, g => g
  | u + 1, g => tabMax (rowsOf 128 (128 * u) att) (rowsOf 128 (128 * u) sc) (wd (p + 128 * u)).toNat
      ((wd (p + 128 * u + 127)).toNat + 1 - (wd (p + 128 * u)).toNat) (tabTile att sc wd p u g)

/-- One step of the weights' sums. -/
theorem l_step {q q' : FVec F S2048x256 .bf16} {b b' : FVec F S2048x1 .f32} {kc : ℕ → FVec F S512x256 .bf16} {n : ℕ} {X : FVec F S2048x1 .f32}
    {k : FVec F S512x256 .bf16} (hX : X = attL q b kc n) (hk : k = kc n) (hq : q' = q) (hb : b' = b) :
    addf X (shapeCast S2048x1 (multiReduction .add [1] S2048 (exp2 (subf (matmul dot_S2048x256_S512x256_S2048x512_1_1_0_0_n_n none q' k (constant S2048x512 .f32 0x00000000#32))
    (broadcastTo S2048x512 b' broadcasts_S2048x1_S2048x512))) 0x00000000#32 reduces_S2048x512_S2048 (.inl rfl) rfl) shapeCasts_S2048_S2048x1)
      = attL q b kc (n + 1) := by
  subst hX hk hq hb; rfl

/-- One step of the weighted sums. -/
theorem a_step {q q' : FVec F S2048x256 .bf16} {b b' : FVec F S2048x1 .f32} {kc vc : ℕ → FVec F S512x256 .bf16} {n : ℕ} {X : FVec F S2048x256 .f32}
    {k v : FVec F S512x256 .bf16} (hX : X = attA q b kc vc n) (hk : k = kc n) (hv : v = vc n) (hq : q' = q) (hb : b' = b) :
    addf X (matmul dot_S2048x512_S512x256_S2048x256_1_0_0_1_n_n none (truncf .bf16 (exp2 (subf (matmul dot_S2048x256_S512x256_S2048x512_1_1_0_0_n_n none q' k (constant S2048x512 .f32 0x00000000#32))
    (broadcastTo S2048x512 b' broadcasts_S2048x1_S2048x512))) bitsLt_bf16_f32) v (constant S2048x256 .f32 0x00000000#32))
      = attA q b kc vc (n + 1) := by
  subst hX hk hv hq hb; rfl

/-- The quotient after the last chunk. -/
theorem att_end {A : FVec F S2048x256 .f32} {L : FVec F S2048x1 .f32} {q : FVec F S2048x256 .bf16} {n : FVec F S2048x1 .f32} {km : F .f32} {k v : FVec F S8192x256 .bf16}
    (hA : A = attA q (k0_pay13 n km) (fun j => rowsOf 512 (512 * j) k) (fun j => rowsOf 512 (512 * j) v) 16)
    (hL : L = attL q (k0_pay13 n km) (fun j => rowsOf 512 (512 * j) k) 16) :
    shapeCast S2048x256 (divf A (broadcastTo S2048x256 L broadcasts_S2048x1_S2048x256)) shapeCasts_S2048x256_S2048x256 = attTile q n km k v := by
  subst hA hL; rfl

/-- One sub-block's step of the table. -/
theorem tab_step {att : FVec F S2048x256 .f32} {sc : IVec S2048x1 32} {wd : ℕ → BitVec 32} {p u : ℕ} {g X : Vec F S64x1x256 .f32}
    {a : FVec F S128x256 .f32} {s : IVec S128x1 32} {lo hi : BitVec 32}
    (hX : X = tabTile att sc wd p u g) (ha : a = rowsOf 128 (128 * u) att) (hs : s = rowsOf 128 (128 * u) sc) (hl : lo = wd (p + 128 * u))
    (hh : hi = wd (p + 128 * u + 127)) :
    tabMax a s lo.toNat (hi.toNat + 1 - lo.toNat) X = tabTile att sc wd p (u + 1) g := by
  subst hX ha hs hl hh; rfl

/-- The bound, from what the buffers hold. -/
theorem bound_eq {n n' : FVec F S2048x1 .f32} {km km' : F .f32} (hn : n' = n) (hk : km' = km) :
    sqrt (mulf n' (broadcast S2048x1 km')) = k0_pay13 n km := by
  subst hn hk; rfl

/-- The load of the one entry. -/
theorem read_z1 {sp : Space} {e : EltTy} (v : View sig .tc sp S1 e) (f : v.ty.Contents (Elt F)) (inb : ∀ a, (![0] : Fin 1 → ℕ) a + S1.size a ≤ S1.size a)
    (h : 0 < (Rect.unit (s := S1) ![0] S1.size inb).toLoadRect.shape.numel) :
    v.readAt (Elt F) (Rect.unit (s := S1) ![0] S1.size inb).toLoadRect f (Shape.Idx.first h) = v.read (Elt F) f z1 := by
  rw [View.readAt_full]
  exact congrArg (v.read (Elt F) f) (idx_S1 _)

/-- The column of segment numbers. -/
theorem col_eq {x y : Vec F S1x2048x1 .i32} (h : x = y) : shapeCast S2048x1 x shapeCasts_S1x2048x1_S2048x1 = k0_pay42 y := by
  subst h; rfl

/-- The renewed sums, from equal parts. -/
theorem sum_eq {A att : FVec F S2048x256 .f32} {s sr : Vec F S1x1x2048 .i32} {g g' : Vec F S64x256 .f32} (hA : A = att) (hs : s = sr) (hg : g = g') :
    k0_pay45 (k0_pay44 A s g) = k0_pay45 (k0_pay44 att sr g') := by
  subst hA hs hg; rfl

/-- The renewed counts, from equal parts. -/
theorem cnt_eq {s sr : Vec F S1x1x2048 .i32} {g g' : Vec F S64x1 .f32} (hs : s = sr) (hg : g = g') :
    k0_pay46 (k0_pay43 s) g = k0_pay46 (k0_pay43 sr) g' := by
  subst hs hg; rfl

/-- The output, from equal parts. -/
theorem out_eq {a a' : Vec F S64x1 .f32} {b b' : Vec F S64x1x256 .f32} {d d' : Vec F S64x256 .f32} (ha : a = a') (hb : b = b') (hd : d = d') :
    k0_pay8 a b d = k0_pay8 a' b' d' := by
  subst ha hb hd; rfl

/-- Where the last of a loop's points lies in the batch words. -/
def hiIx (p u : ℕ) : ℕ := p + 128 * u + 127

/-- One more of a tile's loops: what the table reads as after it. -/
theorem tab_loop {arg19 : Memref sig .tc .vmem S64x1x256 .f32} {att : FVec F S2048x256 .f32} {sc : IVec S2048x1 32} {wd : ℕ → BitVec 32} {p u : ℕ} {g : Vec F S64x1x256 .f32}
    {f : BufTy.Contents (Elt F) arg19.view.ty} {a : FVec F S128x256 .f32} {s : IVec S128x1 32} {lo hi : BitVec 32} {n : ℕ}
    (hw : ∀ p, (wd p).toNat < 64) (hX : arg19.view.read (Elt F) f = tabTile att sc wd p u g) (ha : a = rowsOf 128 (128 * u) att)
    (hs : s = rowsOf 128 (128 * u) sc) (hl : lo = wd (p + 128 * u)) (hh : hi = wd (hiIx p u)) (hn : n = (Cert.Words.segLoop lo hi).trips) :
    arg19.view.read (Elt F) ((Nat.rec (fun g => g) (fun k' _ g => slabRun arg19 a s lo g (k' + 1)) n :
        BufTy.Contents (Elt F) arg19.view.ty → BufTy.Contents (Elt F) arg19.view.ty) f) = tabTile att sc wd p (u + 1) g := by
  rw [read_slabLoop arg19 a s lo hi (hl ▸ hw _) (hh ▸ hw _) f n hn]
  exact tab_step hX ha hs hl hh

/-- The offsets of the first and of the last segment number of each sub-block. -/
def loOff : ℕ → grid0.Coords → Fin 1 → ℕ := fun u => [k0_off5, k0_off9, k0_off13, k0_off17, k0_off21, k0_off25, k0_off29, k0_off33, k0_off37, k0_off41, k0_off45, k0_off49, k0_off53, k0_off57, k0_off61, k0_off65].getD u k0_off5
/-- Where a sub-block's last segment number lies. -/
def hiOff : ℕ → grid0.Coords → Fin 1 → ℕ := fun u => [k0_off6, k0_off10, k0_off14, k0_off18, k0_off22, k0_off26, k0_off30, k0_off34, k0_off38, k0_off42, k0_off46, k0_off50, k0_off54, k0_off58, k0_off62, k0_off66].getD u k0_off6

/-- Where a sub-block's first segment number lies. -/
theorem loOff_val : ∀ i : grid0.Coords, k0_cond3 i = 1#1 → ∀ u : Fin 16, loOff u i 0 = 2048 * ((i 0).val - 4) + 128 * u.val := by decide +kernel
/-- Where a sub-block's last segment number lies, as a number. -/
theorem hiOff_val : ∀ i : grid0.Coords, k0_cond3 i = 1#1 → ∀ u : Fin 16, hiOff u i 0 = 2048 * ((i 0).val - 4) + 128 * u.val + 127 := by decide +kernel
/-- Where a tile's queries lie. -/
theorem off3_val : ∀ i : grid0.Coords, k0_cond3 i = 1#1 → k0_off3 i 0 = 2048 * ((i 0).val - 4) := by decide +kernel
/-- Where a tile's row sums lie. -/
theorem off4_val : ∀ i : grid0.Coords, k0_cond3 i = 1#1 → k0_off4 i 0 = 2048 * ((i 0).val - 4) := by decide +kernel

/-- The first offset at a sub-block. -/
theorem lo_val {i : grid0.Coords} (h : k0_cond3 i = 1#1) (u : ℕ) (hu : u < 16) : loOff u i 0 = 2048 * ((i 0).val - 4) + 128 * u := loOff_val i h ⟨u, hu⟩
/-- The last offset at a sub-block. -/
theorem hi_val {i : grid0.Coords} (h : k0_cond3 i = 1#1) (u : ℕ) (hu : u < 16) : hiOff u i 0 = 2048 * ((i 0).val - 4) + 128 * u + 127 := hiOff_val i h ⟨u, hu⟩

/-- A load's offset that is a sub-block's first. -/
theorem lo_at {i : grid0.Coords} (h : k0_cond3 i = 1#1) {o : Fin 1 → ℕ} {u : ℕ} (hu : u < 16) (ho : o = loOff u i) :
    o 0 = 2048 * ((i 0).val - 4) + 128 * u := by
  subst ho; exact lo_val h u hu

/-- A load's offset that is a sub-block's last. -/
theorem hi_at {i : grid0.Coords} (h : k0_cond3 i = 1#1) {o : Fin 1 → ℕ} {u : ℕ} (hu : u < 16) (ho : o = hiOff u i) :
    o 0 = hiIx (2048 * ((i 0).val - 4)) u := by
  subst ho; exact hi_val h u hu

set_option maxHeartbeats 4000000 in
/-- An attention point: the tile's attention is taken into the table of maxima, into the sums and into the counts; at the last point
    the result is formed. -/
theorem att_body (c : Dev nD) (E : Set ℕ) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x1x2048 .i32) (harg10 : arg10.IsWhole) (arg11 : Memref sig .tc .vmem S1x2048x1 .i32) (harg11 : arg11.IsWhole) (arg12 : Memref sig .tc .smem S8192 .i32) (harg12 : arg12.IsWhole) (arg13 : Memref sig .tc .vmem S64x512 .f32) (harg13 : arg13.IsWhole) (arg14 : Memref sig .tc .vmem S8192x256 .bf16) (harg14 : arg14.IsWhole) (arg15 : Memref sig .tc .vmem S8192x256 .bf16) (harg15 : arg15.IsWhole) (arg16 : Memref sig .tc .vmem S8192x256 .bf16) (harg16 : arg16.IsWhole) (arg17 : Memref sig .tc .vmem S8192x1 .f32) (harg17 : arg17.IsWhole) (arg18 : Memref sig .tc .vmem S2048x256 .f32) (harg18 : arg18.IsWhole) (arg19 : Memref sig .tc .vmem S64x1x256 .f32) (harg19 : arg19.IsWhole) (arg20 : Memref sig .tc .vmem S64x256 .f32) (harg20 : arg20.IsWhole) (arg21 : Memref sig .tc .vmem S64x1 .f32) (harg21 : arg21.IsWhole) (arg22 : Memref sig .tc .smem S1 .f32) (harg22 : arg22.IsWhole)
    (sr : Vec F S1x1x2048 .i32) (sc : Vec F S1x2048x1 .i32) (wd : Vec F S8192 .i32) (ot : Vec F S64x512 .f32) (q k v : Vec F S8192x256 .bf16) (n : Vec F S8192x1 .f32) (tb : Vec F S64x1x256 .f32) (sm : Vec F S64x256 .f32) (ct : Vec F S64x1 .f32) (km : Vec F S1 .f32)
    (h1 : ¬ First i) (h2 : ¬ k0_cond2 i = 1#1) (h3 : k0_cond3 i = 1#1)
    (hchk : ∀ j, (wd j : BitVec 32).toNat < 64)
    (K : PUnit → sProp 𝕄) :
    iprop(owns (c : Thread nD τ) arg10 fullShare sr ∗ owns (c : Thread nD τ) arg11 fullShare sc ∗ owns (c : Thread nD τ) arg12 fullShare wd ∗ owns (c : Thread nD τ) arg13 fullShare ot ∗ owns (c : Thread nD τ) arg14 fullShare q ∗ owns (c : Thread nD τ) arg15 fullShare k ∗ owns (c : Thread nD τ) arg16 fullShare v ∗ owns (c : Thread nD τ) arg17 fullShare n ∗ (∃ d, owns (c : Thread nD τ) arg18 fullShare d) ∗ owns (c : Thread nD τ) arg19 fullShare tb ∗ owns (c : Thread nD τ) arg20 fullShare sm ∗ owns (c : Thread nD τ) arg21 fullShare ct ∗ owns (c : Thread nD τ) arg22 fullShare km ∗ (iprop(owns (c : Thread nD τ) arg10 fullShare sr ∗ owns (c : Thread nD τ) arg11 fullShare sc ∗ owns (c : Thread nD τ) arg12 fullShare wd ∗ owns (c : Thread nD τ) arg13 fullShare (if k0_cond4 i = 1#1 then k0_pay8 (k0_pay46 (k0_pay43 sr) ct) (tabTile (attTile (rowsOf 2048 (2048 * ((i 0).val - 4)) q) (rowsOf 2048 (2048 * ((i 0).val - 4)) n) (km z1) k v) (k0_pay42 sc) (entry wd) (2048 * ((i 0).val - 4)) 16 tb) (k0_pay45 (k0_pay44 (attTile (rowsOf 2048 (2048 * ((i 0).val - 4)) q) (rowsOf 2048 (2048 * ((i 0).val - 4)) n) (km z1) k v) sr sm)) else ot) ∗ owns (c : Thread nD τ) arg14 fullShare q ∗ owns (c : Thread nD τ) arg15 fullShare k ∗ owns (c : Thread nD τ) arg16 fullShare v ∗ owns (c : Thread nD τ) arg17 fullShare n ∗ (∃ d, owns (c : Thread nD τ) arg18 fullShare d) ∗ owns (c : Thread nD τ) arg19 fullShare (tabTile (attTile (rowsOf 2048 (2048 * ((i 0).val - 4)) q) (rowsOf 2048 (2048 * ((i 0).val - 4)) n) (km z1) k v) (k0_pay42 sc) (entry wd) (2048 * ((i 0).val - 4)) 16 tb) ∗ owns (c : Thread nD τ) arg20 fullShare (k0_pay45 (k0_pay44 (attTile (rowsOf 2048 (2048 * ((i 0).val - 4)) q) (rowsOf 2048 (2048 * ((i 0).val - 4)) n) (km z1) k v) sr sm)) ∗ owns (c : Thread nD τ) arg21 fullShare (k0_pay46 (k0_pay43 sr) ct) ∗ owns (c : Thread nD τ) arg22 fullShare km) -∗ K ⟨⟩))
    ⊢ wp frame (wpE (defs₀ (F := F)) Variants.none (c : Thread nD τ) none) E (cc0_sentence_readout i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_sentence_readout_eq_skeleton]; unfold cc0_sentence_readout_skel
  unfold owns
  iintro ⟨⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%f19, %hf19, H19⟩, ⟨%f20, %hf20, H20⟩, ⟨%f21, %hf21, H21⟩, ⟨%f22, %hf22, H22⟩, HK⟩
  subst hf10 hf11 hf12 hf13 hf14 hf15 hf16 hf17 hf19 hf20 hf21 hf22
  sl_exec (disch := exact Cert.Words.chk (hchk _) (hchk _))
  sl_step
  have e21 : att_body.sl.v21 c i arg17 arg22 h3 f17 f22 = k0_pay13 (rowsOf 2048 (2048 * ((i 0).val - 4)) (arg17.view.read (Elt F) f17)) ((arg22.view.read (Elt F) f22) z1) :=
    bound_eq (read_rows _ _ _ (off4_val i h3)) (read_z1 _ _ _ _)
  have e220 : att_body.sl.v220 c i arg14 arg15 arg16 arg17 arg22 h3 f14 f15 f16 f17 f22 = (attTile (rowsOf 2048 (2048 * ((i 0).val - 4)) (arg14.view.read (Elt F) f14)) (rowsOf 2048 (2048 * ((i 0).val - 4)) (arg17.view.read (Elt F) f17)) ((arg22.view.read (Elt F) f22) z1) (arg15.view.read (Elt F) f15) (arg16.view.read (Elt F) f16)) := by
    refine att_end ?_ ?_
    · iterate 16 refine a_step ?_ (read_rows _ _ _ rfl) (read_rows _ _ _ rfl) (read_rows _ _ _ (off3_val i h3)) e21
      rfl
    · iterate 16 refine l_step ?_ (read_rows _ _ _ rfl) (read_rows _ _ _ (off3_val i h3)) e21
      rfl
  have e221 : att_body.sl.v221 c i arg14 arg15 arg16 arg17 arg18 arg22 h3 f14 f15 f16 f17 f22 = (attTile (rowsOf 2048 (2048 * ((i 0).val - 4)) (arg14.view.read (Elt F) f14)) (rowsOf 2048 (2048 * ((i 0).val - 4)) (arg17.view.read (Elt F) f17)) ((arg22.view.read (Elt F) f22) z1) (arg15.view.read (Elt F) f15) (arg16.view.read (Elt F) f16)) := by
    unfold att_body.sl.v221 att_body.sl.H18_1
    rw [View.readCov_full]
    exact e220
  have e225 : att_body.sl.v225 c arg11 f11 = k0_pay42 (arg11.view.read (Elt F) f11) := col_eq (View.readAt_full _ _ _)
  have e15 : att_body.sl.v15 c i arg11 arg12 arg14 arg15 arg16 arg17 arg18 arg19 arg22 h3 f11 f12 f14 f15 f16 f17 f19 f22
      = tabTile (attTile (rowsOf 2048 (2048 * ((i 0).val - 4)) (arg14.view.read (Elt F) f14)) (rowsOf 2048 (2048 * ((i 0).val - 4)) (arg17.view.read (Elt F) f17)) ((arg22.view.read (Elt F) f22) z1) (arg15.view.read (Elt F) f15) (arg16.view.read (Elt F) f16)) (k0_pay42 (arg11.view.read (Elt F) f11)) (entry (arg12.view.read (Elt F) f12)) (2048 * ((i 0).val - 4)) 16 (arg19.view.read (Elt F) f19) := by
    unfold att_body.sl.v15
    rw [View.readAt_full]
    iterate 16 refine tab_loop (fun p => hchk _) ?_ (slice_rows e221 rfl _) (slice_rows e225 rfl _) (by exact read_entry _ _ _ (by exact lo_at h3 (by decide) rfl) _) (by exact read_entry _ _ _ (by exact hi_at h3 (by decide) rfl) _) rfl
    rfl
  iapply HK
  isplitl [H10]
  · iexists _; isplitr
    swap; · iexact H10
    ipureintro
    rfl
  isplitl [H11]
  · iexists _; isplitr
    swap; · iexact H11
    ipureintro
    rfl
  isplitl [H12]
  · iexists _; isplitr
    swap; · iexact H12
    ipureintro
    rfl
  isplitl [H13]
  · iexists _; isplitr
    swap; · iexact H13
    ipureintro
    by_cases h4 : k0_cond4 i = 1#1
    · rw [if_pos h4, dif_pos h4, View.read_writes_full]
      refine out_eq ?_ e15 ?_
      · unfold att_body.sl.v12_1 att_body.sl.H21_1
        rw [View.readCov_full]
        exact cnt_eq (View.readAt_full _ _ _) (View.readAt_full _ _ _)
      · unfold att_body.sl.v21_1 att_body.sl.H20_1
        rw [View.readCov_full]
        exact sum_eq e221 (View.readAt_full _ _ _) (View.readAt_full _ _ _)
    · rw [if_neg h4, dif_neg h4]
  isplitl [H14]
  · iexists _; isplitr
    swap; · iexact H14
    ipureintro
    rfl
  isplitl [H15]
  · iexists _; isplitr
    swap; · iexact H15
    ipureintro
    rfl
  isplitl [H16]
  · iexists _; isplitr
    swap; · iexact H16
    ipureintro
    rfl
  isplitl [H17]
  · iexists _; isplitr
    swap; · iexact H17
    ipureintro
    rfl
  isplitl [H18]
  · iexists _; iexists _; isplitr
    swap; · iexact H18
    ipureintro
    rfl
  isplitl [H19]
  · iexists _; isplitr
    swap; · iexact H19
    ipureintro
    refine Eq.trans ?_ e15
    unfold att_body.sl.v15
    rw [View.readAt_full]
  isplitl [H20]
  · iexists _; isplitr
    swap; · iexact H20
    ipureintro
    unfold att_body.sl.H20_1
    rw [View.read_writes_full]
    exact sum_eq e221 (View.readAt_full _ _ _) (View.readAt_full _ _ _)
  isplitl [H21]
  · iexists _; isplitr
    swap; · iexact H21
    ipureintro
    unfold att_body.sl.H21_1
    rw [View.read_writes_full]
    exact cnt_eq (View.readAt_full _ _ _) (View.readAt_full _ _ _)
  iexists _; isplitr
  swap; · iexact H22
  ipureintro
  rfl

end Cert.KernelIdeal.Att

end
-- ==== Proof.Run.lean ====
/-
  The launch: what the scratch buffers hold from point to point, the body's triple at every point, and the run.
-/
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Claim
public import Idealize.ShloMosaic.Lib.Tactic
public import proofs.«01_k».proof.Proof.Slab
public import proofs.«01_k».proof.Proof.Proj
public import proofs.«01_k».proof.Proof.Rows
public import proofs.«01_k».proof.Proof.Att

@[expose] public section

set_option maxRecDepth 16384

noncomputable section

namespace Cert.KernelIdeal.Run

open Cert.Rows Cert.KernelIdeal.Att Cert.KernelIdeal Cert.KernelIdeal.Proj Cert.KernelIdeal.Gen Cert.KernelIdeal.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which parts of the body run at which point -/

/-- The projection part runs at the first four points. -/
theorem proj_iff : ∀ t : Fin grid0.N, k0_cond2 (grid0.coords t) = 1#1 ↔ t.val < 4 := by decide +kernel
/-- The attention part runs at the last four points. -/
theorem att_iff : ∀ t : Fin grid0.N, k0_cond3 (grid0.coords t) = 1#1 ↔ 4 ≤ t.val := by decide +kernel
/-- The output is written at the last point. -/
theorem out_iff : ∀ t : Fin grid0.N, k0_cond4 (grid0.coords t) = 1#1 ↔ t.val = 7 := by decide +kernel
/-- The tables are cleared at point nought. -/
theorem first_iff : ∀ t : Fin grid0.N, First (grid0.coords t) ↔ t.val = 0 := by unfold First; decide +kernel

/-! ## What the scratch buffers hold -/

/-- The scratch buffers' contents that are kept from point to point. -/
structure Kept (F : FTy → Type) where
  q : Vec F S8192x256 .bf16
  k : Vec F S8192x256 .bf16
  v : Vec F S8192x256 .bf16
  n : Vec F S8192x1 .f32
  tb : Vec F S64x1x256 .f32
  sm : Vec F S64x256 .f32
  ct : Vec F S64x1 .f32
  km : Vec F S1 .f32

/-- A projection point's change to them. -/
def projStep (c : Dev nD) (t : Fin cfg0.N) (s : Kept F) : Kept F where
  q := VecWindow.put s.q (k0_off1 (grid0.coords t)) S2048x256.size (k0_pay11 (iblk m c 0 t) (iblk m c 1 t) (iblk m c 2 t) (iblk m c 3 t) (iblk m c 4 t))
  k := VecWindow.put s.k (k0_off1 (grid0.coords t)) S2048x256.size (k0_pay5 (k0_pay9 (iblk m c 0 t) (iblk m c 1 t) (iblk m c 2 t)) (iblk m c 5 t) (iblk m c 6 t))
  v := VecWindow.put s.v (k0_off1 (grid0.coords t)) S2048x256.size (k0_pay6 (k0_pay9 (iblk m c 0 t) (iblk m c 1 t) (iblk m c 2 t)) (iblk m c 7 t) (iblk m c 8 t))
  n := VecWindow.put s.n (k0_off2 (grid0.coords t)) S2048x1.size (k0_pay12 (iblk m c 0 t) (iblk m c 1 t) (iblk m c 2 t) (iblk m c 3 t) (iblk m c 4 t))
  tb := if First (grid0.coords t) then k0_pay1 else s.tb
  sm := if First (grid0.coords t) then k0_pay2 else s.sm
  ct := if First (grid0.coords t) then k0_pay3 else s.ct
  km := newMax (iblk m c 0 t) (iblk m c 1 t) (iblk m c 2 t) (iblk m c 5 t) (iblk m c 6 t) (if First (grid0.coords t) then Scalar.ofBits .f32 0#32 else s.km z1)

/-- The tile of attention an attention point computes. -/
def tileOf (t : Fin cfg0.N) (s : Kept F) : FVec F S2048x256 .f32 :=
  attTile (rowsOf 2048 (2048 * ((grid0.coords t 0).val - 4)) s.q) (rowsOf 2048 (2048 * ((grid0.coords t 0).val - 4)) s.n) (s.km z1) s.k s.v

/-- An attention point's change to them. -/
def attStep (c : Dev nD) (t : Fin cfg0.N) (s : Kept F) : Kept F where
  q := s.q
  k := s.k
  v := s.v
  n := s.n
  tb := tabTile (tileOf t s) (k0_pay42 (iblk m c 10 t)) (entry (N := 8192) (iblk m c 11 t)) (2048 * ((grid0.coords t 0).val - 4)) 16 s.tb
  sm := k0_pay45 (k0_pay44 (tileOf t s) (iblk m c 9 t) s.sm)
  ct := k0_pay46 (k0_pay43 (iblk m c 9 t)) s.ct
  km := s.km

/-- A point's change to them. -/
def step (c : Dev nD) (t : Fin cfg0.N) (s : Kept F) : Kept F := if t.val < 4 then projStep m c t s else attStep m c t s

/-- What they hold before point `n`, from what they held at the start. -/
def keptAt (c : Dev nD) : ℕ → Kept F → Kept F
  | 0, s => s
  | n + 1, s => if h : n < cfg0.N then step m c ⟨n, h⟩ (keptAt c n s) else keptAt c n s

/-- A point's step. -/
theorem keptAt_succ (c : Dev nD) (t : Fin cfg0.N) (s : Kept F) : keptAt m c (t.val + 1) s = step m c t (keptAt m c t.val s) := by
  show (if h : t.val < cfg0.N then _ else _) = _
  rw [dif_pos t.isLt]

/-- The first point. -/
def pt0 : Fin cfg0.N := ⟨0, by decide⟩

/-- Some contents to start from. -/
def start (c : Dev nD) : Kept F where
  q := fun j => k0_pay11 (iblk m c 0 pt0) (iblk m c 1 pt0) (iblk m c 2 pt0) (iblk m c 3 pt0) (iblk m c 4 pt0) (ix2 (Fin.ofNat 2048 0) (j 1))
  k := fun j => k0_pay11 (iblk m c 0 pt0) (iblk m c 1 pt0) (iblk m c 2 pt0) (iblk m c 3 pt0) (iblk m c 4 pt0) (ix2 (Fin.ofNat 2048 0) (j 1))
  v := fun j => k0_pay11 (iblk m c 0 pt0) (iblk m c 1 pt0) (iblk m c 2 pt0) (iblk m c 3 pt0) (iblk m c 4 pt0) (ix2 (Fin.ofNat 2048 0) (j 1))
  n := fun j => k0_pay12 (iblk m c 0 pt0) (iblk m c 1 pt0) (iblk m c 2 pt0) (iblk m c 3 pt0) (iblk m c 4 pt0) (ix2 (Fin.ofNat 2048 0) (j 1))
  tb := k0_pay1
  sm := k0_pay2
  ct := k0_pay3
  km := fun _ => Scalar.ofBits .f32 0#32

/-- Four puts at the four quarters leave nothing of what was there. -/
theorem put4 {α : Type} {w : ℕ} (x y : (⟨2, ![8192, w]⟩ : Shape).Idx → α) (o : Fin 4 → Fin 2 → ℕ) (ho : ∀ t, o t = ![2048 * t.val, 0])
    (p : Fin 4 → ((a : Fin 2) → Fin ((![2048, w] : Fin 2 → ℕ) a)) → α) :
    VecWindow.put (s := ⟨2, ![8192, w]⟩) (VecWindow.put (s := ⟨2, ![8192, w]⟩) (VecWindow.put (s := ⟨2, ![8192, w]⟩) (VecWindow.put (s := ⟨2, ![8192, w]⟩) x (o 0) ![2048, w] (p 0)) (o 1) ![2048, w] (p 1)) (o 2) ![2048, w] (p 2)) (o 3) ![2048, w] (p 3)
    = VecWindow.put (s := ⟨2, ![8192, w]⟩) (VecWindow.put (s := ⟨2, ![8192, w]⟩) (VecWindow.put (s := ⟨2, ![8192, w]⟩) (VecWindow.put (s := ⟨2, ![8192, w]⟩) y (o 0) ![2048, w] (p 0)) (o 1) ![2048, w] (p 1)) (o 2) ![2048, w] (p 2)) (o 3) ![2048, w] (p 3) := by
  funext j
  unfold VecWindow.put
  have h0 : (j 0).val < 8192 := (j 0).isLt
  have h1 : (j 1).val < w := (j 1).isLt
  have key : ∀ t : Fin 4, 2048 * t.val ≤ (j 0).val → (j 0).val < 2048 * t.val + 2048 →
      ∀ a : Fin 2, o t a ≤ (j a).val ∧ (j a).val < o t a + (![2048, w] : Fin 2 → ℕ) a := fun t hl hh a => by
    rw [ho t]
    match a with
    | ⟨0, _⟩ => exact ⟨hl, hh⟩
    | ⟨1, _⟩ => exact ⟨Nat.zero_le _, by show (j 1).val < 0 + w; omega⟩
  by_cases c3 : 6144 ≤ (j 0).val
  · rw [dif_pos (key 3 c3 (by show _ < 2048 * 3 + 2048; omega)), dif_pos (key 3 c3 (by show _ < 2048 * 3 + 2048; omega))]
  split; · rfl
  by_cases c2 : 4096 ≤ (j 0).val
  · rw [dif_pos (key 2 c2 (by show _ < 2048 * 2 + 2048; omega)), dif_pos (key 2 c2 (by show _ < 2048 * 2 + 2048; omega))]
  split; · rfl
  by_cases c1 : 2048 ≤ (j 0).val
  · rw [dif_pos (key 1 c1 (by show _ < 2048 * 1 + 2048; omega)), dif_pos (key 1 c1 (by show _ < 2048 * 1 + 2048; omega))]
  split; · rfl
  rw [dif_pos (key 0 (Nat.zero_le _) (by show _ < 2048 * 0 + 2048; omega)), dif_pos (key 0 (Nat.zero_le _) (by show _ < 2048 * 0 + 2048; omega))]

/-- Where a quarter's rows are put. -/
theorem off1_val : ∀ t : Fin 4, k0_off1 (grid0.coords ⟨t.val, Nat.lt_of_lt_of_le t.isLt (by decide)⟩) = ![2048 * t.val, 0] := by decide +kernel
/-- Where a quarter's row sums are put. -/
theorem off2_val : ∀ t : Fin 4, k0_off2 (grid0.coords ⟨t.val, Nat.lt_of_lt_of_le t.isLt (by decide)⟩) = ![2048 * t.val, 0] := by decide +kernel

/-- After the projection points nothing of the start is left. -/
theorem keptAt_four (c : Dev nD) (s s' : Kept F) : keptAt m c 4 s = keptAt m c 4 s' := by
  have hs : ∀ s : Kept F, keptAt m c 4 s = projStep m c ⟨3, by decide⟩ (projStep m c ⟨2, by decide⟩ (projStep m c ⟨1, by decide⟩ (projStep m c ⟨0, by decide⟩ s))) := fun s => rfl
  have f0 : First (grid0.coords (⟨0, by decide⟩ : Fin grid0.N)) := (first_iff _).mpr rfl
  rw [hs, hs]
  unfold projStep
  congr 1
  · exact put4 _ _ (fun t => k0_off1 (grid0.coords ⟨t.val, Nat.lt_of_lt_of_le t.isLt (by decide)⟩)) off1_val
      (fun t => let t : Fin cfg0.N := ⟨t.val, Nat.lt_of_lt_of_le t.isLt (by decide)⟩; k0_pay11 (iblk m c 0 t) (iblk m c 1 t) (iblk m c 2 t) (iblk m c 3 t) (iblk m c 4 t))
  · exact put4 _ _ (fun t => k0_off1 (grid0.coords ⟨t.val, Nat.lt_of_lt_of_le t.isLt (by decide)⟩)) off1_val
      (fun t => let t : Fin cfg0.N := ⟨t.val, Nat.lt_of_lt_of_le t.isLt (by decide)⟩; k0_pay5 (k0_pay9 (iblk m c 0 t) (iblk m c 1 t) (iblk m c 2 t)) (iblk m c 5 t) (iblk m c 6 t))
  · exact put4 _ _ (fun t => k0_off1 (grid0.coords ⟨t.val, Nat.lt_of_lt_of_le t.isLt (by decide)⟩)) off1_val
      (fun t => let t : Fin cfg0.N := ⟨t.val, Nat.lt_of_lt_of_le t.isLt (by decide)⟩; k0_pay6 (k0_pay9 (iblk m c 0 t) (iblk m c 1 t) (iblk m c 2 t)) (iblk m c 7 t) (iblk m c 8 t))
  · exact put4 _ _ (fun t => k0_off2 (grid0.coords ⟨t.val, Nat.lt_of_lt_of_le t.isLt (by decide)⟩)) off2_val
      (fun t => let t : Fin cfg0.N := ⟨t.val, Nat.lt_of_lt_of_le t.isLt (by decide)⟩; k0_pay12 (iblk m c 0 t) (iblk m c 1 t) (iblk m c 2 t) (iblk m c 3 t) (iblk m c 4 t))
  all_goals simp only [if_pos f0]

/-- Nothing of the start is left at the end. -/
theorem keptAt_eight (c : Dev nD) (s s' : Kept F) : keptAt m c 8 s = keptAt m c 8 s' := by
  have hs : ∀ s : Kept F, keptAt m c 8 s = attStep m c ⟨7, by decide⟩ (attStep m c ⟨6, by decide⟩ (attStep m c ⟨5, by decide⟩ (attStep m c ⟨4, by decide⟩ (keptAt m c 4 s)))) := fun s => rfl
  rw [hs, hs, keptAt_four m c s s']

/-- What the buffers hold at the end. -/
def last (c : Dev nD) : Kept F := keptAt m c 8 (start m c)

/-- The result. -/
def result (c : Dev nD) : Vec F S64x512 .f32 := k0_pay8 (last m c).ct (last m c).tb (last m c).sm

/-- The scratch buffers held at the contents `s`. -/
def hold (c : Dev nD) (s : Kept F) : sProp 𝕄 :=
  iprop(owns (c : Thread nD τ) (Memref.whole cc0_scratch0) fullShare s.q ∗ owns (c : Thread nD τ) (Memref.whole cc0_scratch1) fullShare s.k ∗ owns (c : Thread nD τ) (Memref.whole cc0_scratch2) fullShare s.v ∗ owns (c : Thread nD τ) (Memref.whole cc0_scratch3) fullShare s.n ∗ (∃ d, owns (c : Thread nD τ) (Memref.whole cc0_scratch4) fullShare d) ∗ owns (c : Thread nD τ) (Memref.whole cc0_scratch5) fullShare s.tb ∗ owns (c : Thread nD τ) (Memref.whole cc0_scratch6) fullShare s.sm ∗ owns (c : Thread nD τ) (Memref.whole cc0_scratch7) fullShare s.ct ∗ owns (c : Thread nD τ) (Memref.whole cc0_scratch8) fullShare s.km)

/-! ## The pipeline's proof data -/

/-- Each input's buffer stays at its block, the output's is left at the result, and the scratch buffers are tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => result m c
  Φ t := iprop((∃ s, hold c (keptAt m c t.val s)) ∗ ∃ r, prngReg c r)
  q _ := fullShare
  owed _ := 0

/-- An array's contents at entry. -/
theorem A_eq (c : Dev nD) (w : Fin cfg0.W) : (dats m 0 c).A w = V m c (Pipeline.arrRef spec0 w) := by
  dsimp only [dats]

/-- What is tracked from point to point. -/
theorem Φ_eq (c : Dev nD) (t : Fin (cfg0.N + 1)) : (dats m 0 c).Φ t = iprop((∃ s, hold c (keptAt m c t.val s)) ∗ ∃ r, prngReg c r) := by
  dsimp only [dats]

/-- What window 0's buffer holds after a point. -/
theorem after0_0 (c : Dev nD) (t : Fin cfg0.N) : (dats m 0 c).after 0 t = iblk m c 0 t := by dsimp only [dats]
/-- What window 1's buffer holds after a point. -/
theorem after0_1 (c : Dev nD) (t : Fin cfg0.N) : (dats m 0 c).after 1 t = iblk m c 1 t := by dsimp only [dats]
/-- What window 2's buffer holds after a point. -/
theorem after0_2 (c : Dev nD) (t : Fin cfg0.N) : (dats m 0 c).after 2 t = iblk m c 2 t := by dsimp only [dats]
/-- What window 3's buffer holds after a point. -/
theorem after0_3 (c : Dev nD) (t : Fin cfg0.N) : (dats m 0 c).after 3 t = iblk m c 3 t := by dsimp only [dats]
/-- What window 4's buffer holds after a point. -/
theorem after0_4 (c : Dev nD) (t : Fin cfg0.N) : (dats m 0 c).after 4 t = iblk m c 4 t := by dsimp only [dats]
/-- What window 5's buffer holds after a point. -/
theorem after0_5 (c : Dev nD) (t : Fin cfg0.N) : (dats m 0 c).after 5 t = iblk m c 5 t := by dsimp only [dats]
/-- What window 6's buffer holds after a point. -/
theorem after0_6 (c : Dev nD) (t : Fin cfg0.N) : (dats m 0 c).after 6 t = iblk m c 6 t := by dsimp only [dats]
/-- What window 7's buffer holds after a point. -/
theorem after0_7 (c : Dev nD) (t : Fin cfg0.N) : (dats m 0 c).after 7 t = iblk m c 7 t := by dsimp only [dats]
/-- What window 8's buffer holds after a point. -/
theorem after0_8 (c : Dev nD) (t : Fin cfg0.N) : (dats m 0 c).after 8 t = iblk m c 8 t := by dsimp only [dats]
/-- What window 9's buffer holds after a point. -/
theorem after0_9 (c : Dev nD) (t : Fin cfg0.N) : (dats m 0 c).after 9 t = iblk m c 9 t := by dsimp only [dats]
/-- What window 10's buffer holds after a point. -/
theorem after0_10 (c : Dev nD) (t : Fin cfg0.N) : (dats m 0 c).after 10 t = iblk m c 10 t := by dsimp only [dats]
/-- What window 11's buffer holds after a point. -/
theorem after0_11 (c : Dev nD) (t : Fin cfg0.N) : (dats m 0 c).after 11 t = iblk m c 11 t := by dsimp only [dats]
/-- What window 12's buffer holds after a point. -/
theorem after0_12 (c : Dev nD) (t : Fin cfg0.N) : (dats m 0 c).after 12 t = result m c := by dsimp only [dats]
/-- What window 0's buffer holds before a point. -/
theorem before0_0 (c : Dev nD) (t : Fin cfg0.N) (d) : (dats m 0 c).before 0 t d = iblk m c 0 t :=
  before0_0_of m (dats m 0 c) (A_eq m c 0) (after0_0 m c) t d
/-- What window 1's buffer holds before a point. -/
theorem before0_1 (c : Dev nD) (t : Fin cfg0.N) (d) : (dats m 0 c).before 1 t d = iblk m c 1 t :=
  before0_1_of m (dats m 0 c) (A_eq m c 1) (after0_1 m c) t d
/-- What window 2's buffer holds before a point. -/
theorem before0_2 (c : Dev nD) (t : Fin cfg0.N) (d) : (dats m 0 c).before 2 t d = iblk m c 2 t :=
  before0_2_of m (dats m 0 c) (A_eq m c 2) (after0_2 m c) t d
/-- What window 3's buffer holds before a point. -/
theorem before0_3 (c : Dev nD) (t : Fin cfg0.N) (d) : (dats m 0 c).before 3 t d = iblk m c 3 t :=
  before0_3_of m (dats m 0 c) (A_eq m c 3) (after0_3 m c) t d
/-- What window 4's buffer holds before a point. -/
theorem before0_4 (c : Dev nD) (t : Fin cfg0.N) (d) : (dats m 0 c).before 4 t d = iblk m c 4 t :=
  before0_4_of m (dats m 0 c) (A_eq m c 4) (after0_4 m c) t d
/-- What window 5's buffer holds before a point. -/
theorem before0_5 (c : Dev nD) (t : Fin cfg0.N) (d) : (dats m 0 c).before 5 t d = iblk m c 5 t :=
  before0_5_of m (dats m 0 c) (A_eq m c 5) (after0_5 m c) t d
/-- What window 6's buffer holds before a point. -/
theorem before0_6 (c : Dev nD) (t : Fin cfg0.N) (d) : (dats m 0 c).before 6 t d = iblk m c 6 t :=
  before0_6_of m (dats m 0 c) (A_eq m c 6) (after0_6 m c) t d
/-- What window 7's buffer holds before a point. -/
theorem before0_7 (c : Dev nD) (t : Fin cfg0.N) (d) : (dats m 0 c).before 7 t d = iblk m c 7 t :=
  before0_7_of m (dats m 0 c) (A_eq m c 7) (after0_7 m c) t d
/-- What window 8's buffer holds before a point. -/
theorem before0_8 (c : Dev nD) (t : Fin cfg0.N) (d) : (dats m 0 c).before 8 t d = iblk m c 8 t :=
  before0_8_of m (dats m 0 c) (A_eq m c 8) (after0_8 m c) t d
/-- What window 9's buffer holds before a point. -/
theorem before0_9 (c : Dev nD) (t : Fin cfg0.N) (d) : (dats m 0 c).before 9 t d = iblk m c 9 t :=
  before0_9_of m (dats m 0 c) (A_eq m c 9) (after0_9 m c) t d
/-- What window 10's buffer holds before a point. -/
theorem before0_10 (c : Dev nD) (t : Fin cfg0.N) (d) : (dats m 0 c).before 10 t d = iblk m c 10 t :=
  before0_10_of m (dats m 0 c) (A_eq m c 10) (after0_10 m c) t d
/-- What window 11's buffer holds before a point. -/
theorem before0_11 (c : Dev nD) (t : Fin cfg0.N) (d) : (dats m 0 c).before 11 t d = iblk m c 11 t :=
  before0_11_of m (dats m 0 c) (A_eq m c 11) (after0_11 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What the body leaves in the output's buffer: the result at the last point, what was there before at the others. -/
def outPost (c : Dev nD) (t : Fin cfg0.N) : sProp 𝕄 :=
  match cfg0.idle 12 (cfg0.grid.coords t) with
  | true =>
    match (cfg0.win 12).flush t with
    | false => iprop(∃ d, owns (c : Thread nD τ) (st0_12 t) fullShare ((dats m 0 c).before 12 t d))
    | true => owns (c : Thread nD τ) (st0_12 t) fullShare ((dats m 0 c).after 12 t)
  | false => owns (c : Thread nD τ) (st0_12 t) fullShare ((dats m 0 c).after 12 t)

/-- The output's buffer is idle at every point but the last. -/
theorem idle_ne {t : Fin cfg0.N} (h : t.val ≠ 7) : cfg0.idle 12 (cfg0.grid.coords t) = true := by
  show (!(k0_cond4 (grid0.coords t) == 1#1)) = true
  have := (out_iff t).not.mpr h
  simp [this]

/-- The output's buffer is used at the last point. -/
theorem idle_eq {t : Fin cfg0.N} (h : t.val = 7) : cfg0.idle 12 (cfg0.grid.coords t) = false := by
  show (!(k0_cond4 (grid0.coords t) == 1#1)) = false
  have := (out_iff t).mpr h
  simp [this]

/-- What is owed of the output at a point that does not write it. -/
theorem outPost_ne (c : Dev nD) {t : Fin cfg0.N} (h : t.val ≠ 7) :
    outPost m c t = iprop(∃ d, owns (c : Thread nD τ) (st0_12 t) fullShare ((dats m 0 c).before 12 t d)) := by
  have hf : (cfg0.win 12).flush t = false := by
    have h8 : t.val < 8 := lt_of_lt_of_eq t.isLt N_0
    have := (flush0_12 t).not.mpr (by omega)
    simpa using this
  unfold outPost
  rw [idle_ne h, hf]

/-- What is owed of the output at the point that writes it. -/
theorem outPost_eq (c : Dev nD) {t : Fin cfg0.N} (h : t.val = 7) :
    outPost m c t = owns (c : Thread nD τ) (st0_12 t) fullShare ((dats m 0 c).after 12 t) := by
  unfold outPost
  rw [idle_eq h]

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ outPost m c t)

set_option maxHeartbeats 1000000 in
/-- The body at any point, where the batch words at the attention points are in range. -/
theorem sound_body (c : Dev nD) (t : Fin cfg0.N) (hw : ∀ j, (iblk m c 11 t j : BitVec 32).toNat < 64) :
    bodyPre m c t ⊢ wp frame (wpE (defs₀ (F := F)) Variants.none c none) Set.univ (bodyAt0 t) (fun _ => bodyPost m c t) := by
  have hN : t.val < 8 := lt_of_lt_of_eq t.isLt N_0
  unfold bodyPre bodyPost bodyAt0
  simp only [before0_0, before0_1, before0_2, before0_3, before0_4, before0_5, before0_6, before0_7, before0_8, before0_9, before0_10, before0_11]
  rw [Φ_eq, Φ_eq, show (dats m 0 c).owesAt () t.succ = (dats m 0 c).owesAt () t.castSucc from rfl,
    after0_0, after0_1, after0_2, after0_3, after0_4, after0_5, after0_6, after0_7, after0_8, after0_9, after0_10, after0_11]
  rw [show ((t.castSucc : Fin (cfg0.N + 1)).val) = t.val from rfl]
  by_cases ht : t.val < 4
  · rw [outPost_ne m c (by omega)]
    unfold hold
    iintro ⟨⟨⟨%s0, Hq, Hk, Hv, Hn, Hs, Ht, Hm, Hc, Hx⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (proj_body c Set.univ (grid0.coords t) _ _ _ _ _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) _ _ _ _ _ _ _ _ ((proj_iff t).mpr ht) ((att_iff t).not.mpr (by omega)) ((out_iff t).not.mpr (by omega)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hq]; · iexact Hq
    isplitl [Hk]; · iexact Hk
    isplitl [Hv]; · iexact Hv
    isplitl [Hn]; · iexact Hn
    isplitl [Ht]; · iexact Ht
    isplitl [Hm]; · iexact Hm
    isplitl [Hc]; · iexact Hc
    isplitl [Hx]; · iexact Hx
    iintro ⟨H0, H1, H2, H3, H4, H5, H6, H7, H8, Hq, Hk, Hv, Hn, Ht, Hm, Hc, Hx⟩
    isplitl [Hq Hk Hv Hn Hs Ht Hm Hc Hx Hr]
    · isplitr [Hr]
      · iexists s0
        rw [show ((t.succ : Fin (cfg0.N + 1)).val) = t.val + 1 from rfl, keptAt_succ, step, if_pos ht]
        isplitl [Hq]; · iexact Hq
        isplitl [Hk]; · iexact Hk
        isplitl [Hv]; · iexact Hv
        isplitl [Hn]; · iexact Hn
        isplitl [Hs]; · iexact Hs
        isplitl [Ht]; · iexact Ht
        isplitl [Hm]; · iexact Hm
        isplitl [Hc]; · iexact Hc
        iexact Hx
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists d12; iexact H12
  · unfold hold
    iintro ⟨⟨⟨%s0, Hq, Hk, Hv, Hn, Hs, Ht, Hm, Hc, Hx⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (att_body c Set.univ (grid0.coords t) _ _ _ _ _ _ _ _ _ _ _ _ _ _ _ _ _ _ _ _ _ _ _ _ _ _ _ _ _ _ _ _ _ _ _ _ _ _ _ _ _ _ _ _  (iblk m c 9 t) (iblk m c 10 t) (iblk m c 11 t) _ _ _ _ _ _ _ _ _ ((first_iff t).not.mpr (by omega)) ((proj_iff t).not.mpr ht) ((att_iff t).mpr (by omega)) hw _)
    isplitl [H9]; · iexact H9
    isplitl [H10]; · iexact H10
    isplitl [H11]; · iexact H11
    isplitl [H12]; · iexact H12
    isplitl [Hq]; · iexact Hq
    isplitl [Hk]; · iexact Hk
    isplitl [Hv]; · iexact Hv
    isplitl [Hn]; · iexact Hn
    isplitl [Hs]; · iexact Hs
    isplitl [Ht]; · iexact Ht
    isplitl [Hm]; · iexact Hm
    isplitl [Hc]; · iexact Hc
    isplitl [Hx]; · iexact Hx
    iintro ⟨H9, H10, H11, H12, Hq, Hk, Hv, Hn, Hs, Ht, Hm, Hc, Hx⟩
    isplitl [Hq Hk Hv Hn Hs Ht Hm Hc Hx Hr]
    · isplitr [Hr]
      · iexists s0
        rw [show ((t.succ : Fin (cfg0.N + 1)).val) = t.val + 1 from rfl, keptAt_succ, step, if_neg ht]
        isplitl [Hq]; · iexact Hq
        isplitl [Hk]; · iexact Hk
        isplitl [Hv]; · iexact Hv
        isplitl [Hn]; · iexact Hn
        isplitl [Hs]; · iexact Hs
        isplitl [Ht]; · iexact Ht
        isplitl [Hm]; · iexact Hm
        isplitl [Hc]; · iexact Hc
        iexact Hx
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    by_cases h7 : t.val = 7
    · rw [outPost_eq m c h7, after0_12, if_pos ((out_iff t).mpr h7)]
      have e : result m c = k0_pay8 (step m c t (keptAt m c t.val s0)).ct (step m c t (keptAt m c t.val s0)).tb (step m c t (keptAt m c t.val s0)).sm := by
        rw [← keptAt_succ, h7]
        unfold result last
        rw [keptAt_eight m c (start m c) s0]
      rw [e, step, if_neg ht]
      iexact H12
    · rw [outPost_ne m c h7, if_neg ((out_iff t).not.mpr h7)]
      iexists d12
      iexact H12

/-- The body's row of the table of definitions. -/
theorem defs₀_row (t : Fin cfg0.N) :
    defs₀ (F := F) .tc cfg0.body (cfg0.bodyArgs t (cfg0.slots t)) = bodyAt0 t := by
  unfold defs₀; rw [Defs.onTc_tc]

/-- The batch words are in range. -/
def InRange : Prop := ∀ (c : Dev nD) (t : Fin cfg0.N), ∀ j, (iblk m c 11 t j : BitVec 32).toNat < 64

variable {m}

/-- The body does at every point what the pipeline asks of it. -/
theorem body_obligation (hw : InRange m) (c : Dev nD) : BodyObligation (dats (F := F) m 0 c) (defs₀ (F := F)) Variants.none () Set.univ := fun t => by
  rw [bigSep_W0, bigSep_W0, defs₀_row]
  exact triple_restated (sound_body m c t (hw c t)) rfl .rfl fun _ => .rfl

/-- The scratch buffers as the launch hands them over. -/
theorem enter (c : Dev nD) : (Pipeline.ΦA spec0 c : sProp 𝕄) ⊢ (dats m 0 c).Φ 0 := by
  rw [Φ_eq]
  unfold Pipeline.ΦA hold
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hr⟩
  isplitr [Hr]
  · iexists (⟨f0, f1, f2, f3, f5, f6, f7, f8⟩ : Kept F)
    isplitl [H0]; · iexact H0
    isplitl [H1]; · iexact H1
    isplitl [H2]; · iexact H2
    isplitl [H3]; · iexact H3
    isplitl [H4]; · iexists f4; iexact H4
    isplitl [H5]; · iexact H5
    isplitl [H6]; · iexact H6
    isplitl [H7]; · iexact H7
    iexact H8
  · iexact Hr

/-- And as they are handed back. -/
theorem leave (c : Dev nD) : (dats m 0 c).Φ (Fin.last cfg0.N) ⊢ (Pipeline.ΦA spec0 c : sProp 𝕄) := by
  rw [Φ_eq]
  unfold Pipeline.ΦA hold
  rw [scopedRest0_eq]
  simp only [owns_whole]
  iintro ⟨⟨%s, H0, H1, H2, H3, ⟨%d, H4⟩, H5, H6, H7, H8⟩, Hr⟩
  isplitr [Hr]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8
  · iexact Hr

set_option backward.isDefEq.respectTransparency.types false in
/-- The launch: it ends with every array at what the proof data say and with every semaphore counter at zero. -/
theorem run_main_quiescent (hw : InRange m) : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation hw c).loose) (hshare := fun c => (dats m 0 c).share_full fun _ => rfl)
    (howed := fun _ _ => rfl) (V := V m) (hmain := hmain m Variants.none) (hA := A_eq m) (hin := enter) (hout := leave)

/-- The run ends in what the pipeline's data say. -/
theorem run_main (hw : InRange m) : θ_run defs (onTc (τ := τ) (main (F := F))) (s₀ m ρ) (Pipeline.FramePost cfgs (dats m) 0 (V m)) :=
  (θ_run defs _ _).mono (fun _ h => h.1) (run_main_quiescent ρ hw)

/-- The arguments end unchanged and every counter at zero. -/
theorem frame (hw : InRange m) : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main ρ hw)) ((θ_run defs _ _).mono (fun _ h => h.2) (run_main_quiescent ρ hw))

/-- The words of the batch's block are the batch's. -/
theorem inRange_of (h : ∀ c : Dev nD, ∀ j, (m ((c.tc : Thread nD τ).loc main_arg9) j : BitVec 32).toNat < 64) : InRange m := fun c t j => by
  have hV : ∀ j, (V m c main_arg9 j : BitVec 32).toNat < 64 := by rw [V_main_arg9]; exact h c
  exact hV _

end Cert.KernelIdeal.Run

end
-- ==== Proof.Ext.lean ====
/-
  Sums, maxima and a softmax's weights over the extended reals.
-/
module

public import Idealize.ShloMosaic.Lib.Pointwise

@[expose] public section

noncomputable section

namespace Cert.Ext

open Idealize.ShloMosaic

/-- The extended real is a real number. -/
def IsR (x : EReal) : Prop := ∃ a : ℝ, x = a

/-- A real number is real. -/
theorem IsR.coe (a : ℝ) : IsR (a : EReal) := ⟨a, rfl⟩
/-- Nought is real. -/
theorem IsR.zero : IsR 0 := ⟨0, rfl⟩
/-- A sum of two real numbers is real. -/
theorem IsR.add {x y : EReal} : IsR x → IsR y → IsR (x + y) := by rintro ⟨a, rfl⟩ ⟨b, rfl⟩; exact ⟨a + b, (EReal.coe_add a b).symm⟩
/-- A product of two real numbers is real. -/
theorem IsR.mul {x y : EReal} : IsR x → IsR y → IsR (x * y) := by rintro ⟨a, rfl⟩ ⟨b, rfl⟩; exact ⟨a * b, (EReal.coe_mul a b).symm⟩
/-- The larger of two real numbers is real. -/
theorem IsR.max {x y : EReal} (hx : IsR x) (hy : IsR y) : IsR (max x y) := by
  rcases max_choice x y with h | h <;> rw [h] <;> assumption
/-- A finite sum of real numbers is real. -/
theorem IsR.sum {ι : Type} (s : Finset ι) {f : ι → EReal} (h : ∀ i ∈ s, IsR (f i)) : IsR (∑ i ∈ s, f i) :=
  Finset.sum_induction f IsR (fun _ _ => IsR.add) IsR.zero h

/-- The root of a real number that is not negative. -/
theorem IsR.sqrt {x : EReal} (hx : IsR x) (h0 : 0 ≤ x) : IsR (Ideal.sqrt x) := by
  obtain ⟨a, rfl⟩ := hx
  have ha : ¬ a < 0 := not_lt.mpr (EReal.coe_nonneg.mp h0)
  exact ⟨Real.sqrt a, if_neg ha⟩

/-- A number whose absolute value is below infinity is real. -/
theorem isR_of_abs {x : EReal} (h : max x (-x) < ⊤) : IsR x := by
  induction x with
  | bot => simp at h
  | coe a => exact ⟨a, rfl⟩
  | top => simp at h

/-- A maximum of real numbers, one of them there, is real. -/
theorem isR_fold {ι : Type} [Fintype ι] (i₀ : ι) {f : ι → EReal} (h : ∀ i, IsR (f i)) : IsR (Finset.fold max ⊥ f Finset.univ) := by
  have hs : ∀ s : Finset ι, Finset.fold max ⊥ f s = ⊥ ∨ IsR (Finset.fold max ⊥ f s) := by
    intro s
    classical
    induction s using Finset.induction_on with
    | empty => left; rfl
    | insert a s ha ih =>
      right
      rw [Finset.fold_insert ha]
      rcases ih with e | e
      · rw [e, max_bot_right]; exact h a
      · exact (h a).max e
  rcases hs Finset.univ with e | e
  · exfalso
    have : f i₀ ≤ Finset.fold max ⊥ f Finset.univ := Finset.le_fold_max _ |>.mpr (Or.inr ⟨i₀, Finset.mem_univ _, le_rfl⟩)
    rw [e] at this
    obtain ⟨a, ha⟩ := h i₀
    rw [ha] at this
    exact absurd this (by simp)
  · exact e

/-- Division by a real number other than nought. -/
theorem div_coe (x : EReal) {a : ℝ} (ha : a ≠ 0) : Ideal.div x a = x * ((a⁻¹ : ℝ) : EReal) := by
  unfold Ideal.div
  rw [if_neg (by exact_mod_cast ha), EReal.coe_inv]

/-- A factor that is a real number and not negative is taken into a sum. -/
theorem sum_mul_coe {ι : Type} (s : Finset ι) (f : ι → EReal) {a : ℝ} (ha : 0 ≤ a) : (∑ i ∈ s, f i) * (a : EReal) = ∑ i ∈ s, f i * (a : EReal) := by
  classical
  induction s using Finset.induction_on with
  | empty => simp
  | insert i s hi ih =>
    rw [Finset.sum_insert hi, Finset.sum_insert hi, ← ih]
    exact EReal.right_distrib_of_nonneg_of_ne_top (by exact_mod_cast ha) (EReal.coe_ne_top a) _ _

/-- A sum of real numbers is the same sum of extended ones. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A weighted mean does not change when all the weights are multiplied by one positive number. -/
theorem mean_eq {ι : Type} [Fintype ι] [Nonempty ι] (e : ι → ℝ) (he : ∀ i, 0 < e i) {C : ℝ} (hC : 0 < C) (v : ι → EReal) :
    Ideal.div (∑ i, ((e i * C : ℝ) : EReal) * v i) (∑ i, ((e i * C : ℝ) : EReal)) = ∑ i, Ideal.div (e i : EReal) (∑ i, (e i : EReal)) * v i := by
  have hS : 0 < ∑ i, e i := Finset.sum_pos (fun i _ => he i) Finset.univ_nonempty
  have hSC : 0 < ∑ i, e i * C := Finset.sum_pos (fun i _ => mul_pos (he i) hC) Finset.univ_nonempty
  rw [← coe_sum, ← coe_sum, div_coe _ hSC.ne', sum_mul_coe _ _ (inv_nonneg.mpr hSC.le)]
  refine Finset.sum_congr rfl fun i _ => ?_
  rw [div_coe _ hS.ne', mul_right_comm, ← EReal.coe_mul, ← EReal.coe_mul]
  congr 2
  rw [← Finset.sum_mul]
  field_simp

/-- The weights as two to a power and as the exponential of the scores less their maximum. -/
theorem weight_eq (S M b : ℝ) : Real.rpow 2 (S * ((Real.log 2)⁻¹ / 16) - b) = Real.exp (S / 16 - M) * Real.exp (M - b * Real.log 2) := by
  have h2 : Real.log 2 ≠ 0 := (Real.log_pos (by norm_num)).ne'
  rw [Real.rpow_eq_pow]
  rw [Real.rpow_def_of_pos (by norm_num), ← Real.exp_add]
  congr 1
  field_simp
  ring

/-- A list's entries below `n + k` are those below `n` and `k` more. -/
theorem sum_range_append (f : ℕ → EReal) (n k : ℕ) : (∑ i ∈ Finset.range (n + k), f i) = (∑ i ∈ Finset.range n, f i) + ∑ y : Fin k, f (n + y.val) := by
  rw [Finset.sum_range_add, Finset.sum_range (fun x => f (n + x))]

/-! ## The words of the constants -/

/-- The word of minus infinity. -/
theorem minf : Ideal.ofBits FTy.f32 4286578688#32 = ⊥ := by simp [Ideal.ofBits, Ideal.ieee]
/-- The word of infinity. -/
theorem pinf : Ideal.ofBits FTy.f32 2139095040#32 = ⊤ := by simp [Ideal.ofBits, Ideal.ieee]
/-- The word of 256. -/
theorem c256 : Ideal.ofBits FTy.f32 1132462080#32 = ((256 : ℝ) : EReal) := by simp [Ideal.ofBits, Ideal.ieee, -EReal.coe_mul]; norm_num
/-- The root of 256 is 16. -/
theorem s256 : Ideal.sqrt (Ideal.ofBits FTy.f32 1132462080#32) = ((16 : ℝ) : EReal) := by
  rw [c256]
  have : Ideal.sqrt ((256 : ℝ) : EReal) = ((Real.sqrt 256 : ℝ) : EReal) := if_neg (by norm_num)
  rw [this, show (256 : ℝ) = 16 ^ 2 by norm_num, Real.sqrt_sq (by norm_num)]

/-- A maximum taken in from minus infinity is at most `z` if everything is. -/
theorem fold_le {ι : Type} [Fintype ι] (f : ι → EReal) (z : EReal) : Finset.fold max ⊥ f Finset.univ ≤ z ↔ ∀ i, f i ≤ z := by
  rw [Finset.fold_max_le]
  exact ⟨fun h i => h.2 i (Finset.mem_univ i), fun h => ⟨bot_le, fun i _ => h i⟩⟩

end Cert.Ext

end
-- ==== Proof.Reads.lean ====
/-
  The second precondition, read: the segments are in range and in order, and the arrays the scores are computed from hold real numbers.
-/
module

public import proofs.«01_k».proof.Pre_sorted_and_finite
public import proofs.«01_k».proof.Proof.Range
public import proofs.«01_k».proof.Proof.Ext
public import Idealize.ShloMosaic.Lib.Pointwise

@[expose] public section

set_option maxRecDepth 16384

noncomputable section

namespace Cert.Reads

open Idealize.ShloMosaic Cert.Ext Cert.Pre_sorted_and_finite

/-- The side conditions the second precondition states. -/
theorem sortedFacts : Cert.Pre_sorted_and_finite.Facts := ⟨by decide, by decide, by decide, by decide, by decide, by decide⟩

/-- A number whose size compares less than infinity is real. -/
theorem fin_at {x : EReal} (h : Ideal.cmp .olt (max x (-x)) (Ideal.ofBits FTy.f32 2139095040#32) = 1#1) : IsR x := by
  refine isR_of_abs ?_
  rw [pinf] at h
  by_contra hn
  simp [Ideal.cmp, hn] at h

/-- Small words in signed order are in order as numbers. -/
theorem le_of_sle {w v : BitVec 32} (hw : w.toNat < 64) (hv : v.toNat < 64) (h : BitVec.ofBool (w.sle v) = 1#1) : w.toNat ≤ v.toNat := by
  rcases hs : w.sle v with _ | _
  · rw [hs] at h; exact absurd h (by decide)
  · simp only [BitVec.sle, decide_eq_true_eq] at hs
    rw [BitVec.toInt_eq_toNat_of_lt (by omega), BitVec.toInt_eq_toNat_of_lt (by omega)] at hs
    exact_mod_cast hs

variable [Cert.Pre_sorted_and_finite.Facts]
variable {a0 : FVec Ideal S8192x256 .f32} {a1 : FVec Ideal S256x256 .f32} {a2 : FVec Ideal S256 .f32} {a3 : FVec Ideal S256x256 .f32} {a4 : FVec Ideal S256 .f32}
  {a5 : FVec Ideal S256x256 .f32} {a6 : FVec Ideal S256 .f32} {a7 : FVec Ideal S256x256 .f32} {a8 : FVec Ideal S256 .f32} {a9 : IVec S8192 32}

/-- The segments are in range. -/
theorem lt_at (h : (fn (F := Ideal) a0 a1 a2 a3 a4 a5 a6 a7 a8 a9).1 = fun _ => 1#1) (j : S8192.Idx) : (a9 j).toNat < 64 :=
  Cert.Range.toNat_lt (congrFun h j)

/-- A row's segment is at most the next one's. -/
theorem step_at (h : (fn (F := Ideal) a0 a1 a2 a3 a4 a5 a6 a7 a8 a9).1 = fun _ => 1#1) (h' : (fn (F := Ideal) a0 a1 a2 a3 a4 a5 a6 a7 a8 a9).2.1 = fun _ => 1#1)
    (j : ℕ) (hj : j + 1 < 8192) : (a9 (ix1 (Fin.ofNat 8192 j))).toNat ≤ (a9 (ix1 (Fin.ofNat 8192 (j + 1)))).toNat := by
  have e : BitVec.ofBool ((extractStridedSlice S8191 ![0] a9 Facts.slices_S8192_S8191_0 (ix1 (⟨j, by omega⟩ : Fin 8191)) : BitVec 32).sle
      (extractStridedSlice S8191 ![1] a9 Facts.slices_S8192_S8191_1 (ix1 (⟨j, by omega⟩ : Fin 8191)))) = 1#1 := congrFun h' (ix1 (⟨j, by omega⟩ : Fin 8191))
  have e0 : extractStridedSlice S8191 ![0] a9 Facts.slices_S8192_S8191_0 (ix1 (⟨j, by omega⟩ : Fin 8191)) = a9 (ix1 (Fin.ofNat 8192 j)) := by
    refine congrArg a9 ?_
    funext a
    apply Fin.ext
    match a with
    | ⟨0, _⟩ => show 0 + j = j % 8192; omega
  have e1 : extractStridedSlice S8191 ![1] a9 Facts.slices_S8192_S8191_1 (ix1 (⟨j, by omega⟩ : Fin 8191)) = a9 (ix1 (Fin.ofNat 8192 (j + 1))) := by
    refine congrArg a9 ?_
    funext a
    apply Fin.ext
    match a with
    | ⟨0, _⟩ => show 1 + j = (j + 1) % 8192; omega
  rw [e0, e1] at e
  exact le_of_sle (lt_at h _) (lt_at h _) e

/-- The segments are in order. -/
theorem order (h : (fn (F := Ideal) a0 a1 a2 a3 a4 a5 a6 a7 a8 a9).1 = fun _ => 1#1) (h' : (fn (F := Ideal) a0 a1 a2 a3 a4 a5 a6 a7 a8 a9).2.1 = fun _ => 1#1)
    (i j : ℕ) (hij : i ≤ j) (hj : j < 8192) : (a9 (ix1 (Fin.ofNat 8192 i))).toNat ≤ (a9 (ix1 (Fin.ofNat 8192 j))).toNat := by
  induction j, hij using Nat.le_induction with
  | base => exact le_refl _
  | succ j hij ih => exact (ih (by omega)).trans (step_at h h' j hj)

/-- The rows are real. -/
theorem fin0 (h : (fn (F := Ideal) a0 a1 a2 a3 a4 a5 a6 a7 a8 a9).2.2.1 = fun _ => 1#1) (i : S8192x256.Idx) : IsR (a0 i) := fin_at (congrFun h i)
/-- The embedding's matrix is real. -/
theorem fin1 (h : (fn (F := Ideal) a0 a1 a2 a3 a4 a5 a6 a7 a8 a9).2.2.2.1 = fun _ => 1#1) (i : S256x256.Idx) : IsR (a1 i) := fin_at (congrFun h i)
/-- The embedding's bias is real. -/
theorem fin2 (h : (fn (F := Ideal) a0 a1 a2 a3 a4 a5 a6 a7 a8 a9).2.2.2.2.1 = fun _ => 1#1) (i : S256.Idx) : IsR (a2 i) := fin_at (congrFun h i)
/-- The queries' matrix is real. -/
theorem fin3 (h : (fn (F := Ideal) a0 a1 a2 a3 a4 a5 a6 a7 a8 a9).2.2.2.2.2.1 = fun _ => 1#1) (i : S256x256.Idx) : IsR (a3 i) := fin_at (congrFun h i)
/-- The queries' bias is real. -/
theorem fin4 (h : (fn (F := Ideal) a0 a1 a2 a3 a4 a5 a6 a7 a8 a9).2.2.2.2.2.2.1 = fun _ => 1#1) (i : S256.Idx) : IsR (a4 i) := fin_at (congrFun h i)
/-- The keys' matrix is real. -/
theorem fin5 (h : (fn (F := Ideal) a0 a1 a2 a3 a4 a5 a6 a7 a8 a9).2.2.2.2.2.2.2.1 = fun _ => 1#1) (i : S256x256.Idx) : IsR (a5 i) := fin_at (congrFun h i)
/-- The keys' bias is real. -/
theorem fin6 (h : (fn (F := Ideal) a0 a1 a2 a3 a4 a5 a6 a7 a8 a9).2.2.2.2.2.2.2.2 = fun _ => 1#1) (i : S256.Idx) : IsR (a6 i) := fin_at (congrFun h i)

end Cert.Reads

end
-- ==== Proof.Out.lean ====
/-
  The output array after the run: the result.
-/
module

public import proofs.«01_k».proof.Proof.Run
public import Idealize.ShloMosaic.Lib.Pipeline.ValueKit.Geometry
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (Dat Cfg Window)

variable {F : FTy → Type} [FloatOps F] [Named F]
variable {m : (ℓ : Loc nD τ sig) → Buf (Elt F) ℓ} (ρ : Dev nD → PrngReg)

/-- The last point. -/
def pt7 : Fin cfg0.N := ⟨7, by decide⟩

/-- The output's one block is the whole array. -/
theorem idx12 : ∀ t : Fin cfg0.N, win0_12.index t = ![0, 0] := (by decide +kernel : ∀ t : Fin grid0.N, _)

/-- The output array is written once, at the last point, with the result. -/
theorem arr_out (c : Dev nD) : (dats m 0 c).arrAt 12 cfg0.N = result m c := by
  have h : (cfg0.win 12).WholeAt pt7 := by decide +kernel
  refine Dat.arrAt_eq_of_after_last (dat := dats m 0 c) 12 pt7 h (result m c) ?_
  intro j
  rw [after0_12]
  rfl

/-- The run leaves the result in the output and the arguments unchanged. -/
theorem value (hw : InRange m) : θ_run defs (onTc (τ := τ) (main (F := F))) ⟨m, fun _ => 0, ρ⟩ (fun r => (∀ c : Dev nD,
      r.2.mem ((c.tc : Thread nD τ).loc main_v6) = result m c)) :=
  (θ_run defs _ _).mono (fun r h c => (h.out_eq c 12).trans (arr_out c)) (run_main ρ hw)

end Cert.KernelIdeal.Run

end
-- ==== Proof.Value.lean ====
module

public import proofs.«01_k».proof.Proof.Run
public import proofs.«01_k».proof.Proof.Ext
public import Idealize.ShloMosaic.Lib.Pointwise

@[expose] public section

set_option maxRecDepth 16384

noncomputable section

namespace Cert.KernelIdeal.Val

open Cert.Rows Cert.Ext Cert.KernelIdeal Cert.KernelIdeal.Gen Cert.KernelIdeal.Slab Cert.KernelIdeal.Att Cert.KernelIdeal.Proj Cert.KernelIdeal.Run
open Idealize.ShloMosaic

/-- The scale of the queries: the reciprocal of the logarithm of two, over sixteen. -/
abbrev scl : ℝ := (Real.log 2)⁻¹ / 16

/-- The factor of the queries is the scale. -/
theorem scl_eq : Ideal.div (Named.named (F := Ideal) (φ := .f32) κ "log2e" 1069066811#32) (Scalar.sqrt (F := Ideal) (φ := .f32) (Ideal.ofBits FTy.f32 1132462080#32)) = (scl : EReal) := by
  rw [show Scalar.sqrt (F := Ideal) (φ := .f32) (Ideal.ofBits FTy.f32 1132462080#32) = ((16 : ℝ) : EReal) from s256]
  rw [show (Named.named (F := Ideal) (φ := .f32) κ "log2e" 1069066811#32) = (((Real.log 2)⁻¹ : ℝ) : EReal) from rfl, div_coe _ (by norm_num), ← EReal.coe_mul]
  rfl

/-- The embedded rows at an entry. -/
theorem pay9_at (x : Vec Ideal S2048x256 .f32) (w : Vec Ideal S256x256 .f32) (b : Vec Ideal S1x256 .f32) (r : Fin 2048) (k : Fin 256) :
    k0_pay9 (F := Ideal) x w b (ix2 r k) = max ((∑ j : Fin 256, x (ix2 r j) * w (ix2 j k)) + b (ix2 (0 : Fin 1) k)) 0 := by
  pointwise [k0_pay9]

/-- The stored queries at an entry. -/
theorem pay11_at (x : Vec Ideal S2048x256 .f32) (w : Vec Ideal S256x256 .f32) (b : Vec Ideal S1x256 .f32) (w' : Vec Ideal S256x256 .f32) (b' : Vec Ideal S1x256 .f32) (r : Fin 2048) (k : Fin 256) :
    k0_pay11 (F := Ideal) x w b w' b' (ix2 r k) = ((∑ j : Fin 256, k0_pay9 (F := Ideal) x w b (ix2 r j) * w' (ix2 j k)) + b' (ix2 (0 : Fin 1) k)) * (scl : EReal) := by
  rw [← scl_eq]
  pointwise [k0_pay11, k0_pay10]

/-- The row sums of squares at a row. -/
theorem pay12_at (x : Vec Ideal S2048x256 .f32) (w : Vec Ideal S256x256 .f32) (b : Vec Ideal S1x256 .f32) (w' : Vec Ideal S256x256 .f32) (b' : Vec Ideal S1x256 .f32) (r : Fin 2048) (z : Fin 1):
    k0_pay12 (F := Ideal) x w b w' b' (ix2 r z) = ∑ k : Fin 256, k0_pay10 (F := Ideal) x w b w' b' (ix2 r k) * k0_pay10 (F := Ideal) x w b w' b' (ix2 r k) := by
  pointwise [k0_pay12]

/-- The scaled queries at an entry. -/
theorem pay10_at (x : Vec Ideal S2048x256 .f32) (w : Vec Ideal S256x256 .f32) (b : Vec Ideal S1x256 .f32) (w' : Vec Ideal S256x256 .f32) (b' : Vec Ideal S1x256 .f32) (r : Fin 2048) (k : Fin 256) :
    k0_pay10 (F := Ideal) x w b w' b' (ix2 r k) = ((∑ j : Fin 256, k0_pay9 (F := Ideal) x w b (ix2 r j) * w' (ix2 j k)) + b' (ix2 (0 : Fin 1) k)) * (scl : EReal) := by
  rw [← scl_eq]
  pointwise [k0_pay10]

/-- The keys at an entry. -/
theorem pay4_at (x : Vec Ideal S2048x256 .bf16) (w : Vec Ideal S256x256 .f32) (b : Vec Ideal S1x256 .f32) (r : Fin 2048) (k : Fin 256) :
    k0_pay4 (F := Ideal) x w b (ix2 r k) = (∑ j : Fin 256, x (ix2 r j) * w (ix2 j k)) + b (ix2 (0 : Fin 1) k) := by
  pointwise [k0_pay4]

/-- The stored keys at an entry. -/
theorem pay5_at (x : Vec Ideal S2048x256 .bf16) (w : Vec Ideal S256x256 .f32) (b : Vec Ideal S1x256 .f32) (r : Fin 2048) (k : Fin 256) :
    k0_pay5 (F := Ideal) x w b (ix2 r k) = (∑ j : Fin 256, x (ix2 r j) * w (ix2 j k)) + b (ix2 (0 : Fin 1) k) := by
  pointwise [k0_pay5, k0_pay4]

/-- The stored values at an entry. -/
theorem pay6_at (x : Vec Ideal S2048x256 .bf16) (w : Vec Ideal S256x256 .f32) (b : Vec Ideal S1x256 .f32) (r : Fin 2048) (k : Fin 256) :
    k0_pay6 (F := Ideal) x w b (ix2 r k) = (∑ j : Fin 256, x (ix2 r j) * w (ix2 j k)) + b (ix2 (0 : Fin 1) k) := by
  pointwise [k0_pay6]

/-- The renewed maximum of the keys' row sums of squares. -/
theorem pay7_at (x : Vec Ideal S2048x256 .bf16) (w : Vec Ideal S256x256 .f32) (b : Vec Ideal S1x256 .f32) (z : EReal) :
    k0_pay7 (F := Ideal) x w b z = max z (Finset.fold max ⊥ (fun x_1 : Fin 2048 × Fin 1 => ∑ x_2 : Fin 256, k0_pay4 (F := Ideal) x w b (ix2 x_1.1 x_2) * k0_pay4 (F := Ideal) x w b (ix2 x_1.1 x_2)) Finset.univ) := by
  rw [← minf]
  pointwise [k0_pay7]

/-- The bound at a row. -/
theorem pay13_at (x : Vec Ideal S2048x1 .f32) (w : EReal) (r : Fin 2048) (z : Fin 1) :
    k0_pay13 (F := Ideal) x w (ix2 r z) = Ideal.sqrt (x (ix2 r z) * w) := by
  pointwise [k0_pay13]

/-- A weight. -/
theorem chunk_at (q : FVec Ideal S2048x256 .bf16) (b : FVec Ideal S2048x1 .f32) (k : FVec Ideal S512x256 .bf16) (r : Fin 2048) (y : Fin 512) :
    chunkP (F := Ideal) q b k (ix2 r y) = Ideal.exp2 ((∑ x : Fin 256, q (ix2 r x) * k (ix2 y x)) - b (ix2 r (0 : Fin 1))) := by
  pointwise [chunkP]
  rfl

/-- What is stored in a slab, at an entry. -/
theorem slab_at (a : FVec Ideal S128x256 .f32) (s : IVec S128x1 32) (b : BitVec 32) (cur : Vec Ideal S1x1x256 .f32) (y : Fin 256) :
    slabPay (F := Ideal) a s b cur (ix3 (0 : Fin 1) (0 : Fin 1) y) = max (cur (ix3 (0 : Fin 1) (0 : Fin 1) y)) (Finset.fold max ⊥ (fun x : Fin 128 => Scalar.select (IntOp.cmpi .eq (s (ix2 x (0 : Fin 1))) b) (a (ix2 x y)) ⊥) Finset.univ) := by
  rw [← minf]
  pointwise [slabPay]

/-- The mask of a segment at a row. -/
theorem pay43_at (s : Vec Ideal S1x1x2048 .i32) (b : Fin 64) (r : Fin 2048) :
    k0_pay43 (F := Ideal) s (ix2 b r) = Scalar.select (IntOp.cmpi .eq (s (ix3 (0 : Fin 1) (0 : Fin 1) r)) (BitVec.ofNat 32 b.val)) 1 0 := by
  pointwise [k0_pay43]

/-- The renewed sums at an entry. -/
theorem pay45_at (a : FVec Ideal S2048x256 .f32) (s : Vec Ideal S1x1x2048 .i32) (g : Vec Ideal S64x256 .f32) (b : Fin 64) (d : Fin 256) :
    k0_pay45 (F := Ideal) (k0_pay44 a s g) (ix2 b d) = g (ix2 b d) + ∑ x : Fin 2048, k0_pay43 (F := Ideal) s (ix2 b x) * a (ix2 x d) := by
  pointwise [k0_pay45, k0_pay44]

/-- The renewed counts at a segment. -/
theorem pay46_at (a : FVec Ideal S64x2048 .f32) (g : Vec Ideal S64x1 .f32) (b : Fin 64) (z : Fin 1) :
    k0_pay46 (F := Ideal) a g (ix2 b z) = g (ix2 b z) + ∑ x : Fin 2048, a (ix2 b x) := by
  pointwise [k0_pay46]

/-- The column of segment numbers at a row. -/
theorem pay42_at (s : Vec Ideal S1x2048x1 .i32) (r : Fin 2048) (z : Fin 1) : k0_pay42 (F := Ideal) s (ix2 r z) = s (ix3 (0 : Fin 1) r (0 : Fin 1)) := by
  pointwise [k0_pay42]

/-- The output at an entry. -/
theorem pay8_at (a : Vec Ideal S64x1 .f32) (t : Vec Ideal S64x1x256 .f32) (g : Vec Ideal S64x256 .f32) (b : Fin 64) (y : Fin 512) :
    k0_pay8 (F := Ideal) a t g (ix2 b y) = if h : y.val < 256 then if 0 < a (ix2 b (0 : Fin 1)) then t (ix3 b (0 : Fin 1) ⟨y.val, h⟩) else 0
      else if 0 < a (ix2 b (0 : Fin 1)) then Ideal.div (g (ix2 b ⟨y.val - 256, by omega⟩)) (max (a (ix2 b (0 : Fin 1))) 1) else 0 := by
  pointwise [k0_pay8]

/-- The cleared table of maxima is minus infinity. -/
theorem pay1_at (b : Fin 64) (y : Fin 256) : k0_pay1 (F := Ideal) (ix3 b (0 : Fin 1) y) = ⊥ := by
  rw [← minf]
  pointwise [k0_pay1]

/-- The cleared sums are nought. -/
theorem pay2_at (b : Fin 64) (y : Fin 256) : k0_pay2 (F := Ideal) (ix2 b y) = 0 := by
  pointwise [k0_pay2]

/-- The cleared counts are nought. -/
theorem pay3_at (b : Fin 64) (y : Fin 1) : k0_pay3 (F := Ideal) (ix2 b y) = 0 := by
  pointwise [k0_pay3]

end Cert.KernelIdeal.Val

end
-- ==== Proof.Blocks.lean ====
/-
  The windows' blocks at coordinates: each is a tile of an argument.
-/
module

public import proofs.«01_k».proof.Proof.Run
public import proofs.«01_k».proof.Proof.Value
public import Idealize.ShloMosaic.Lib.Pipeline.ValueKit.Geometry
public import Idealize.ShloMosaic.Lib.StableHlo.Run
public import Idealize.ShloMosaic.Lib.Pointwise

@[expose] public section

set_option maxRecDepth 16384

noncomputable section

namespace Cert.KernelIdeal.Val

open Cert.Rows Cert.Ext Cert.KernelIdeal Cert.KernelIdeal.Gen Cert.KernelIdeal.Slab Cert.KernelIdeal.Att Cert.KernelIdeal.Proj Cert.KernelIdeal.Run
open Idealize.ShloMosaic Idealize.ShloMosaic.TcCoe Idealize.ShloMosaic.StableHlo

variable (m : (ℓ : Loc nD τ sig) → Buf (Elt Ideal) ℓ) (c : Dev nD)

/-- The segment numbers in four rows, as they are given. -/
theorem V_v0 : V m c main_v0 = shapeCast S4x1x2048 (m ((c : Thread nD τ).loc main_arg9)) shapeCasts_S8192_S4x1x2048 := by
  show StableHlo.after hostOps0 _ (Proc.devRef .tc main_v0) = _
  after_results
  rfl

/-- The segment numbers in four columns, as they are given. -/
theorem V_v1 : V m c main_v1 = shapeCast S4x2048x1 (m ((c : Thread nD τ).loc main_arg9)) shapeCasts_S8192_S4x2048x1 := by
  show StableHlo.after hostOps0 _ (Proc.devRef .tc main_v1) = _
  after_results
  rfl

/-- The biases as rows are the biases. -/
theorem V_bias : V m c main_v2 = shapeCast S1x256 (m ((c : Thread nD τ).loc main_arg2)) shapeCasts_S256_S1x256
    ∧ V m c main_v3 = shapeCast S1x256 (m ((c : Thread nD τ).loc main_arg4)) shapeCasts_S256_S1x256
    ∧ V m c main_v4 = shapeCast S1x256 (m ((c : Thread nD τ).loc main_arg6)) shapeCasts_S256_S1x256
    ∧ V m c main_v5 = shapeCast S1x256 (m ((c : Thread nD τ).loc main_arg8)) shapeCasts_S256_S1x256 := by
  refine ⟨?_, ?_, ?_, ?_⟩
  all_goals (first
    | show StableHlo.after hostOps0 _ (Proc.devRef .tc main_v2) = _
    | show StableHlo.after hostOps0 _ (Proc.devRef .tc main_v3) = _
    | show StableHlo.after hostOps0 _ (Proc.devRef .tc main_v4) = _
    | show StableHlo.after hostOps0 _ (Proc.devRef .tc main_v5) = _) <;> after_results <;> rfl

/-- Where each window's block lies. -/
theorem idx_all : ∀ t : Fin cfg0.N, (t.val < 4 → win0_0.index t = ![t.val, 0]) ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ (4 ≤ t.val → win0_9.index t = ![t.val - 4, 0, 0])
    ∧ (4 ≤ t.val → win0_10.index t = ![t.val - 4, 0, 0]) ∧ win0_11.index t = ![0] := (by decide +kernel : ∀ t : Fin grid0.N, _)

/-- Row `r` of tile `t`. -/
abbrev row (t : ℕ) (r : Fin 2048) : Fin 8192 := Fin.ofNat 8192 (2048 * t + r.val)

/-- A projection point's block of the input is its tile of rows. -/
theorem blk0 (t : Fin cfg0.N) (ht : t.val < 4) (r : Fin 2048) (k : Fin 256) :
    iblk m c 0 t (ix2 r k) = m ((c : Thread nD τ).loc main_arg0) (ix2 (row t.val r) k) := by
  have hr := r.isLt
  rw [← V_main_arg0 m c]
  have e := (idx_all t).1 ht
  refine congrArg (V m c main_arg0) ?_
  blk_ext [e]
  show t.val * 2048 + r.val = (2048 * t.val + r.val) % 8192
  omega

/-- Window 1 holds the whole of its matrix. -/
theorem blk1 (t : Fin cfg0.N) (r k : Fin 256) : iblk m c 1 t (ix2 r k) = m ((c : Thread nD τ).loc main_arg1) (ix2 r k) := by
  rw [← V_main_arg1 m c]
  have e := (idx_all t).2.1
  refine congrArg (V m c main_arg1) ?_
  blk_ext [e]

/-- Window 3 holds the whole of its matrix. -/
theorem blk3 (t : Fin cfg0.N) (r k : Fin 256) : iblk m c 3 t (ix2 r k) = m ((c : Thread nD τ).loc main_arg3) (ix2 r k) := by
  rw [← V_main_arg3 m c]
  have e := (idx_all t).2.2.2.1
  refine congrArg (V m c main_arg3) ?_
  blk_ext [e]

/-- Window 5 holds the whole of its matrix. -/
theorem blk5 (t : Fin cfg0.N) (r k : Fin 256) : iblk m c 5 t (ix2 r k) = m ((c : Thread nD τ).loc main_arg5) (ix2 r k) := by
  rw [← V_main_arg5 m c]
  have e := (idx_all t).2.2.2.2.2.1
  refine congrArg (V m c main_arg5) ?_
  blk_ext [e]

/-- Window 7 holds the whole of its matrix. -/
theorem blk7 (t : Fin cfg0.N) (r k : Fin 256) : iblk m c 7 t (ix2 r k) = m ((c : Thread nD τ).loc main_arg7) (ix2 r k) := by
  rw [← V_main_arg7 m c]
  have e := (idx_all t).2.2.2.2.2.2.2.1
  refine congrArg (V m c main_arg7) ?_
  blk_ext [e]

/-- Window 2 holds the whole of its bias. -/
theorem blk2 (t : Fin cfg0.N) (k : Fin 256) : iblk m c 2 t (ix2 (0 : Fin 1) k) = m ((c : Thread nD τ).loc main_arg2) (ix1 k) := by
  have h : V m c main_v2 (ix2 (0 : Fin 1) k) = m ((c : Thread nD τ).loc main_arg2) (ix1 k) := by
    rw [(V_bias m c).1]; pointwise []
  rw [← h]
  have e := (idx_all t).2.2.1
  refine congrArg (V m c main_v2) ?_
  blk_ext [e]

/-- Window 4 holds the whole of its bias. -/
theorem blk4 (t : Fin cfg0.N) (k : Fin 256) : iblk m c 4 t (ix2 (0 : Fin 1) k) = m ((c : Thread nD τ).loc main_arg4) (ix1 k) := by
  have h : V m c main_v3 (ix2 (0 : Fin 1) k) = m ((c : Thread nD τ).loc main_arg4) (ix1 k) := by
    rw [(V_bias m c).2.1]; pointwise []
  rw [← h]
  have e := (idx_all t).2.2.2.2.1
  refine congrArg (V m c main_v3) ?_
  blk_ext [e]

/-- Window 6 holds the whole of its bias. -/
theorem blk6 (t : Fin cfg0.N) (k : Fin 256) : iblk m c 6 t (ix2 (0 : Fin 1) k) = m ((c : Thread nD τ).loc main_arg6) (ix1 k) := by
  have h : V m c main_v4 (ix2 (0 : Fin 1) k) = m ((c : Thread nD τ).loc main_arg6) (ix1 k) := by
    rw [(V_bias m c).2.2.1]; pointwise []
  rw [← h]
  have e := (idx_all t).2.2.2.2.2.2.1
  refine congrArg (V m c main_v4) ?_
  blk_ext [e]

/-- Window 8 holds the whole of its bias. -/
theorem blk8 (t : Fin cfg0.N) (k : Fin 256) : iblk m c 8 t (ix2 (0 : Fin 1) k) = m ((c : Thread nD τ).loc main_arg8) (ix1 k) := by
  have h : V m c main_v5 (ix2 (0 : Fin 1) k) = m ((c : Thread nD τ).loc main_arg8) (ix1 k) := by
    rw [(V_bias m c).2.2.2]; pointwise []
  rw [← h]
  have e := (idx_all t).2.2.2.2.2.2.2.2.1
  refine congrArg (V m c main_v5) ?_
  blk_ext [e]

/-- An attention point's row of segment numbers is its tile's. -/
theorem blk9 (t : Fin cfg0.N) (ht : 4 ≤ t.val) (r : Fin 2048) :
    iblk m c 9 t (ix3 (0 : Fin 1) (0 : Fin 1) r) = m ((c : Thread nD τ).loc main_arg9) (ix1 (row (t.val - 4) r)) := by
  have hr := r.isLt
  have ht8 : t.val < 8 := t.isLt
  have h : V m c main_v0 (ix3 (⟨t.val - 4, by omega⟩ : Fin 4) (0 : Fin 1) r) = m ((c : Thread nD τ).loc main_arg9) (ix1 (row (t.val - 4) r)) := by
    rw [V_v0]; pointwise []
    refine congrArg (m _) (congrArg ix1 (Fin.ext ?_))
    show (t.val - 4) * 2048 + r.val = (2048 * (t.val - 4) + r.val) % 8192
    omega
  rw [← h]
  have e := (idx_all t).2.2.2.2.2.2.2.2.2.1 ht
  refine congrArg (V m c main_v0) ?_
  blk_ext [e]

/-- An attention point's column of segment numbers is its tile's. -/
theorem blk10 (t : Fin cfg0.N) (ht : 4 ≤ t.val) (r : Fin 2048) :
    iblk m c 10 t (ix3 (0 : Fin 1) r (0 : Fin 1)) = m ((c : Thread nD τ).loc main_arg9) (ix1 (row (t.val - 4) r)) := by
  have hr := r.isLt
  have ht8 : t.val < 8 := t.isLt
  have h : V m c main_v1 (ix3 (⟨t.val - 4, by omega⟩ : Fin 4) r (0 : Fin 1)) = m ((c : Thread nD τ).loc main_arg9) (ix1 (row (t.val - 4) r)) := by
    rw [V_v1]; pointwise []
    refine congrArg (m _) (congrArg ix1 (Fin.ext ?_))
    show (t.val - 4) * 2048 + r.val = (2048 * (t.val - 4) + r.val) % 8192
    omega
  rw [← h]
  have e := (idx_all t).2.2.2.2.2.2.2.2.2.2.1 ht
  refine congrArg (V m c main_v1) ?_
  blk_ext [e]

/-- Window 11 holds all the segment numbers. -/
theorem blk11 (t : Fin cfg0.N) (p : Fin 8192) : iblk m c 11 t (ix1 p) = m ((c : Thread nD τ).loc main_arg9) (ix1 p) := by
  rw [← V_main_arg9 m c]
  have e := (idx_all t).2.2.2.2.2.2.2.2.2.2.2
  refine congrArg (V m c main_arg9) ?_
  blk_ext [e]

end Cert.KernelIdeal.Val

end
-- ==== Proof.Scat.lean ====
/-
  What the two accumulating scatters of the reference add up.
-/
module

public import proofs.«01_k».proof.Proof.Gen.ReferenceIdeal
public import Idealize.ShloMosaic.Lib.Pointwise

@[expose] public section

set_option maxRecDepth 16384

noncomputable section

namespace Cert.ReferenceIdeal.Val

open Cert.ReferenceIdeal Cert.ReferenceIdeal.Gen
open Idealize.ShloMosaic

/-- Where a row's update of the counts starts. -/
theorem start1 (j : S8192.Idx) (g : IVec S8192x1 32) : scatter_S64_S8192x1_S8192_n_0_0_1.start j g 0 = (g (ix2 (j 0) (0 : Fin 1))).toInt := by
  show (g _).toInt = (g _).toInt
  congr 2
  funext a
  match a with
  | ⟨0, _⟩ => rfl
  | ⟨1, _⟩ => rfl

/-- Where a row's update of the counts lands. -/
theorem land1 (j : S8192.Idx) (g : IVec S8192x1 32) (i : S64.Idx) :
    scatter_S64_S8192x1_S8192_n_0_0_1.resultIdx? j g = some i ↔ (g (ix2 (j 0) (0 : Fin 1))).toInt = ((i 0).val : ℤ) := by
  have hw : ∀ a, scatter_S64_S8192x1_S8192_n_0_0_1.window j a = 0 := fun a => by
    match a with
    | ⟨0, _⟩ => rfl
  have h64 : (i 0).val < 64 := (i 0).isLt
  unfold ScatterDims.resultIdx?
  constructor
  · intro h
    split at h
    case isTrue hc =>
      have e := congrArg Fin.val (congrFun (Option.some.inj h) 0)
      have := hc 0
      rw [hw, start1] at this
      have e' : (scatter_S64_S8192x1_S8192_n_0_0_1.start j g 0 + (scatter_S64_S8192x1_S8192_n_0_0_1.window j 0 : ℕ)).toNat = (i 0).val := e
      rw [hw, start1] at e'
      omega
    case isFalse => exact absurd h (by simp)
  · intro h
    have hc : ∀ a, 0 ≤ scatter_S64_S8192x1_S8192_n_0_0_1.start j g a + (scatter_S64_S8192x1_S8192_n_0_0_1.window j a : ℕ) ∧
        scatter_S64_S8192x1_S8192_n_0_0_1.start j g a + (scatter_S64_S8192x1_S8192_n_0_0_1.window j a : ℕ) < (S64.size a : ℕ) := fun a => by
      match a with
      | ⟨0, _⟩ =>
        rw [hw]
        rw [show (⟨0, _⟩ : Fin S64.rank) = 0 from rfl, start1, h]
        exact ⟨by omega, by show (_ : ℤ) < ((64 : ℕ) : ℤ); omega⟩
    rw [dif_pos hc]
    congr 1
    funext a
    match a with
    | ⟨0, _⟩ =>
      apply Fin.ext
      show (scatter_S64_S8192x1_S8192_n_0_0_1.start j g 0 + (scatter_S64_S8192x1_S8192_n_0_0_1.window j 0 : ℕ)).toNat = (i 0).val
      rw [hw, start1, h]
      omega

/-- Where a row's update of the sums starts. -/
theorem start2 (j : S8192x256.Idx) (g : IVec S8192x1 32) : scatter_S64x256_S8192x1_S8192x256_1_0_0_1.start j g 0 = (g (ix2 (j 0) (0 : Fin 1))).toInt := by
  show (g _).toInt = (g _).toInt
  congr 2
  funext a
  match a with
  | ⟨0, _⟩ => rfl
  | ⟨1, _⟩ => rfl

/-- Where a row's update of the sums lands. -/
theorem land2 (j : S8192x256.Idx) (g : IVec S8192x1 32) (i : S64x256.Idx) :
    scatter_S64x256_S8192x1_S8192x256_1_0_0_1.resultIdx? j g = some i ↔ (g (ix2 (j 0) (0 : Fin 1))).toInt = ((i 0).val : ℤ) ∧ (j 1).val = (i 1).val := by
  have hw0 : scatter_S64x256_S8192x1_S8192x256_1_0_0_1.window j 0 = 0 := rfl
  have hw1 : scatter_S64x256_S8192x1_S8192x256_1_0_0_1.window j 1 = (j 1).val := rfl
  have hs1 : scatter_S64x256_S8192x1_S8192x256_1_0_0_1.start j g 1 = 0 := rfl
  have h64 : (i 0).val < 64 := (i 0).isLt
  have h256 : (i 1).val < 256 := (i 1).isLt
  unfold ScatterDims.resultIdx?
  constructor
  · intro h
    split at h
    case isTrue hc =>
      have e : (scatter_S64x256_S8192x1_S8192x256_1_0_0_1.start j g 0 + (scatter_S64x256_S8192x1_S8192x256_1_0_0_1.window j 0 : ℕ)).toNat = (i 0).val :=
        congrArg Fin.val (congrFun (Option.some.inj h) 0)
      have e' : (scatter_S64x256_S8192x1_S8192x256_1_0_0_1.start j g 1 + (scatter_S64x256_S8192x1_S8192x256_1_0_0_1.window j 1 : ℕ)).toNat = (i 1).val :=
        congrArg Fin.val (congrFun (Option.some.inj h) 1)
      have := hc 0
      rw [hw0, start2] at this e
      rw [hw1, hs1] at e'
      omega
    case isFalse => exact absurd h (by simp)
  · rintro ⟨h, h'⟩
    have hc : ∀ a, 0 ≤ scatter_S64x256_S8192x1_S8192x256_1_0_0_1.start j g a + (scatter_S64x256_S8192x1_S8192x256_1_0_0_1.window j a : ℕ) ∧
        scatter_S64x256_S8192x1_S8192x256_1_0_0_1.start j g a + (scatter_S64x256_S8192x1_S8192x256_1_0_0_1.window j a : ℕ) < (S64x256.size a : ℕ) := fun a => by
      match a with
      | ⟨0, _⟩ =>
        rw [show (⟨0, _⟩ : Fin S64x256.rank) = 0 from rfl, hw0, start2, h]
        exact ⟨by omega, by show (_ : ℤ) < ((64 : ℕ) : ℤ); omega⟩
      | ⟨1, _⟩ =>
        rw [show (⟨1, _⟩ : Fin S64x256.rank) = 1 from rfl, hw1, hs1, h']
        exact ⟨by omega, by show (_ : ℤ) < ((256 : ℕ) : ℤ); omega⟩
    rw [dif_pos hc]
    congr 1
    funext a
    match a with
    | ⟨0, _⟩ =>
      apply Fin.ext
      show (scatter_S64x256_S8192x1_S8192x256_1_0_0_1.start j g 0 + (scatter_S64x256_S8192x1_S8192x256_1_0_0_1.window j 0 : ℕ)).toNat = (i 0).val
      rw [hw0, start2, h]
      omega
    | ⟨1, _⟩ =>
      apply Fin.ext
      show (scatter_S64x256_S8192x1_S8192x256_1_0_0_1.start j g 1 + (scatter_S64x256_S8192x1_S8192x256_1_0_0_1.window j 1 : ℕ)).toNat = (i 1).val
      rw [hw1, hs1, h']
      omega

/-- A sum over a list's indices is a sum over its positions. -/
theorem sum_idx1 {n : ℕ} (f : (⟨1, ![n]⟩ : Shape).Idx → EReal) : ∑ i, f i = ∑ r : Fin n, f (ix1 r) :=
  Fintype.sum_bijective (fun j => (j 0 : Fin n)) ⟨fun i j h => by rw [eq_ix1 i, eq_ix1 j]; exact congrArg ix1 h, fun r => ⟨ix1 r, rfl⟩⟩ _ _
    fun j => congrArg f (eq_ix1 j)

/-- The first scatter adds, at each graph, the updates of its rows. -/
theorem scat1_at (x : FVec Ideal S64 .f32) (g : IVec S8192x1 32) (u : FVec Ideal S8192 .f32) (b : Fin 64) :
    Host.scatterAdd scatter_S64_S8192x1_S8192_n_0_0_1 x g u (ix1 b)
      = x (ix1 b) + ∑ r : Fin 8192, if (g (ix2 r (0 : Fin 1))).toInt = (b.val : ℤ) then u (ix1 r) else 0 := by
  rw [Host.scatterAdd, Ideal.hostScatterAdd_def, Ideal.hostScatterAdd]
  rw [Finset.sum_filter, sum_idx1]
  refine congrArg (x (ix1 b) + ·) (Finset.sum_congr rfl fun r _ => ?_)
  exact if_congr (land1 (ix1 r) g (ix1 b)) rfl rfl

/-- The second adds, at each graph and column, the updates of its rows in that column. -/
theorem scat2_at (x : FVec Ideal S64x256 .f32) (g : IVec S8192x1 32) (u : FVec Ideal S8192x256 .f32) (b : Fin 64) (d : Fin 256) :
    Host.scatterAdd scatter_S64x256_S8192x1_S8192x256_1_0_0_1 x g u (ix2 b d)
      = x (ix2 b d) + ∑ r : Fin 8192, if (g (ix2 r (0 : Fin 1))).toInt = (b.val : ℤ) then u (ix2 r d) else 0 := by
  rw [Host.scatterAdd, Ideal.hostScatterAdd_def, Ideal.hostScatterAdd]
  rw [Finset.sum_filter, sum_idx2]
  refine congrArg (x (ix2 b d) + ·) (Finset.sum_congr rfl fun r _ => ?_)
  rw [Finset.sum_congr rfl fun k _ => if_congr (land2 (ix2 r k) g (ix2 b d)) (rfl : u (ix2 r k) = _) (rfl : (0 : EReal) = 0)]
  rw [Finset.sum_eq_single d (fun k _ hk => if_neg fun h => hk (Fin.ext h.2)) (fun h => absurd (Finset.mem_univ d) h)]
  exact if_congr (and_iff_left rfl) rfl rfl

end Cert.ReferenceIdeal.Val

end
-- ==== Proof.Ref.lean ====
module

public import proofs.«01_k».proof.Proof.Gen.ReferenceIdeal.Run
public import Idealize.ShloMosaic.Lib.Pointwise
public import proofs.«01_k».proof.Proof.Scat

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe Idealize.SL.Sem Idealize.ShloMosaic.StableHlo

/-- A matrix product with a row added. -/
def lin (x : FVec Ideal S8192x256 .f32) (w : FVec Ideal S256x256 .f32) (b : FVec Ideal S256 .f32) : FVec Ideal S8192x256 .f32 :=
  addf (Host.dotGeneral dot_S8192x256_S256x256_S8192x256_1_0_0_1_n_n none x w)
    (broadcastInDim S8192x256 ![0, 1] bcast_S1x256_S8192x256_0_1 (broadcastInDim S1x256 ![1] bcast_S256_S1x256_1 b))

/-- What is above zero. -/
def relu (x : FVec Ideal S8192x256 .f32) : FVec Ideal S8192x256 .f32 :=
  maximumf x (broadcastInDim S8192x256 ![] bcast_S_S8192x256 (constant S_ .f32 0x00000000#32))

/-- The scores. -/
def score (q k : FVec Ideal S8192x256 .f32) : FVec Ideal S8192x8192 .f32 :=
  Host.divf (Host.dotGeneral dot_S8192x256_S256x8192_S8192x8192_1_0_0_1_n_n none q (transpose S256x8192 [1, 0] k transposes_S8192x256_S256x8192_1_0))
    (broadcastInDim S8192x8192 ![] bcast_S_S8192x8192 (Host.sqrt (constant S_ .f32 0x43800000#32)))

/-- The largest score of each row. -/
def top (s : FVec Ideal S8192x8192 .f32) : FVec Ideal S8192 .f32 :=
  maximumf (broadcastInDim S8192 ![] bcast_S_S8192 (constant S_ .f32 0xFF800000#32))
      (Host.reduce FloatOps.maximumf s (constant S_ .f32 0xFF800000#32) reducesTo_S8192x8192_S8192_d1 h_S_)

/-- The exponentials of the scores less the largest of their row. -/
def expo (s : FVec Ideal S8192x8192 .f32) (t : FVec Ideal S8192 .f32) : FVec Ideal S8192x8192 .f32 :=
  Host.exp (subf s (broadcastInDim S8192x8192 ![0, 1] bcast_S8192x1_S8192x8192_0_1 (broadcastInDim S8192x1 ![0] bcast_S8192_S8192x1_0 t)))

/-- The attention. -/
def attend (e : FVec Ideal S8192x8192 .f32) (v : FVec Ideal S8192x256 .f32) : FVec Ideal S8192x256 .f32 :=
  Host.dotGeneral dot_S8192x8192_S8192x256_S8192x256_1_0_0_1_n_n none
    (Host.divf e (broadcastInDim S8192x8192 ![0, 1] bcast_S8192x1_S8192x8192_0_1 (broadcastInDim S8192x1 ![0] bcast_S8192_S8192x1_0
      (Host.reduceAdd e (constant S_ .f32 0x00000000#32) reducesTo_S8192x8192_S8192_d1 h_S_)))) v

/-- How many rows each graph has. -/
def count (g : IVec S8192 32) : FVec Ideal S64 .f32 :=
  Host.scatterAdd scatter_S64_S8192x1_S8192_n_0_0_1 (broadcastInDim S64 ![] bcast_S_S64 (constant S_ .f32 0x00000000#32))
    (broadcastInDim S8192x1 ![0] bcast_S8192_S8192x1_0 g) (broadcastInDim S8192 ![] bcast_S_S8192 (constant S_ .f32 0x3F800000#32))

/-- The sums of each graph's rows. -/
def total (a : FVec Ideal S8192x256 .f32) (g : IVec S8192 32) : FVec Ideal S64x256 .f32 :=
  Host.scatterAdd scatter_S64x256_S8192x1_S8192x256_1_0_0_1 (broadcastInDim S64x256 ![] bcast_S_S64x256 (constant S_ .f32 0x00000000#32))
    (broadcastInDim S8192x1 ![0] bcast_S8192_S8192x1_0 g) a

/-- The largest of each graph's rows. -/
def most (a : FVec Ideal S8192x256 .f32) (g : IVec S8192 32) : FVec Ideal S64x256 .f32 :=
  Host.reduce FloatOps.maximumf (select (broadcastInDim S64x8192x256 ![0, 1, 2] bcast_S64x8192x1_S64x8192x256_0_1_2 (broadcastInDim S64x8192x1 ![0, 1] bcast_S64x8192_S64x8192x1_0_1
      (cmpi .eq (broadcastInDim S64x8192 ![0, 1] bcast_S1x8192_S64x8192_0_1 (broadcastInDim S1x8192 ![1] bcast_S8192_S1x8192_1 g))
        (broadcastInDim S64x8192 ![0, 1] bcast_S64x1_S64x8192_0_1 (broadcastInDim S64x1 ![0] bcast_S64_S64x1_0 (iotaInDim S64 32 0))))))
    (broadcastInDim S64x8192x256 ![0, 1, 2] bcast_S1x8192x256_S64x8192x256_0_1_2 (broadcastInDim S1x8192x256 ![1, 2] bcast_S8192x256_S1x8192x256_1_2 a))
    (broadcastInDim S64x8192x256 ![] bcast_S_S64x8192x256 (constant S_ .f32 0xFF800000#32)))
    (constant S_ .f32 0xFF800000#32) reducesTo_S64x8192x256_S64x256_d1 h_S_

/-- The largest values and the means, side by side. -/
def pool (c : FVec Ideal S64 .f32) (t s : FVec Ideal S64x256 .f32) : FVec Ideal S64x512 .f32 :=
  concatenate S64x512 1 [⟨S64x256, select (broadcastInDim S64x256 ![0, 1] bcast_S64x1_S64x256_0_1 (broadcastInDim S64x1 ![0] bcast_S64_S64x1_0
      (cmpf .ogt c (broadcastInDim S64 ![] bcast_S_S64 (constant S_ .f32 0x00000000#32))))) t (broadcastInDim S64x256 ![] bcast_S_S64x256 (constant S_ .f32 0x00000000#32))⟩,
    ⟨S64x256, select (broadcastInDim S64x256 ![0, 1] bcast_S64x1_S64x256_0_1 (broadcastInDim S64x1 ![0] bcast_S64_S64x1_0
      (cmpf .ogt c (broadcastInDim S64 ![] bcast_S_S64 (constant S_ .f32 0x00000000#32)))))
      (Host.divf s (broadcastInDim S64x256 ![0, 1] bcast_S64x1_S64x256_0_1 (broadcastInDim S64x1 ![0] bcast_S64_S64x1_0
        (maximumf c (broadcastInDim S64 ![] bcast_S_S64 (constant S_ .f32 0x3F800000#32))))))
      (broadcastInDim S64x256 ![] bcast_S_S64x256 (constant S_ .f32 0x00000000#32))⟩] concatenates_S64x256_S64x256_S64x512_d1

/-- The whole of the reference on its arguments. -/
def whole (x : FVec Ideal S8192x256 .f32) (w : FVec Ideal S256x256 .f32) (b : FVec Ideal S256 .f32) (wq : FVec Ideal S256x256 .f32) (bq : FVec Ideal S256 .f32)
    (wk : FVec Ideal S256x256 .f32) (bk : FVec Ideal S256 .f32) (wv : FVec Ideal S256x256 .f32) (bv : FVec Ideal S256 .f32) (g : IVec S8192 32) : FVec Ideal S64x512 .f32 :=
  let h := relu (lin x w b)
  let s := score (lin h wq bq) (lin h wk bk)
  let a := attend (expo s (top s)) (lin h wv bv)
  pool (count g) (most a g) (total a g)

set_option maxHeartbeats 4000000 in
/-- The reference's result is the whole of these steps. -/
theorem res_eq (m : (ℓ : Loc nD τ sig) → Buf (Elt Ideal) ℓ) (c : Dev nD) :
    res_main_v61 (F := Ideal) m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) := by
  unfold res_main_v61; rfl

/-- A linear map at an entry. -/
theorem lin_at (x : FVec Ideal S8192x256 .f32) (w : FVec Ideal S256x256 .f32) (b : FVec Ideal S256 .f32) (r : Fin 8192) (k : Fin 256) :
    lin x w b (ix2 r k) = (∑ j : Fin 256, x (ix2 r j) * w (ix2 j k)) + b (ix1 k) := by
  pointwise [lin]

/-- The positive part at an entry. -/
theorem relu_at (x : FVec Ideal S8192x256 .f32) (r : Fin 8192) (k : Fin 256) : relu x (ix2 r k) = max (x (ix2 r k)) 0 := by
  pointwise [relu]

/-- A score: the product of a query and a key, over sixteen. -/
theorem score_at (q k : FVec Ideal S8192x256 .f32) (r y : Fin 8192) :
    score q k (ix2 r y) = Ideal.div (∑ x : Fin 256, q (ix2 r x) * k (ix2 y x)) (Ideal.sqrt (Ideal.ofBits FTy.f32 1132462080#32)) := by
  pointwise [score]

/-- The maximum along the rows, at a row. -/
theorem red_at (s : FVec Ideal S8192x8192 .f32) (z : FVec Ideal S_ .f32) (r : Fin 8192) :
    Host.reduce FloatOps.maximumf s z reducesTo_S8192x8192_S8192_d1 h_S_ (ix1 r) = Finset.fold max (z (Shape.Idx.first h_S_)) (fun x : Fin 8192 => s (ix2 r x)) Finset.univ := by
  pointwise

/-- A row's greatest score. -/
theorem top_at (s : FVec Ideal S8192x8192 .f32) (r : Fin 8192) :
    top s (ix1 r) = max (Ideal.ofBits FTy.f32 4286578688#32) (Finset.fold max (Ideal.ofBits FTy.f32 4286578688#32) (fun x : Fin 8192 => s (ix2 r x)) Finset.univ) := by
  unfold top
  rw [maximumf_apply, red_at]
  rfl

/-- The exponential of a score less its row's greatest. -/
theorem expo_at (s : FVec Ideal S8192x8192 .f32) (t : FVec Ideal S8192 .f32) (r y : Fin 8192) :
    expo s t (ix2 r y) = Ideal.exp (s (ix2 r y) - t (ix1 r)) := by
  pointwise [expo]

/-- The attention at an entry: the values' mean, weighted by the exponentials. -/
theorem attend_at (e : FVec Ideal S8192x8192 .f32) (v : FVec Ideal S8192x256 .f32) (r : Fin 8192) (y : Fin 256) :
    attend e v (ix2 r y) = ∑ x : Fin 8192, Ideal.div (e (ix2 r x)) (∑ x : Fin 8192, e (ix2 r x)) * v (ix2 x y) := by
  pointwise [attend]

/-- The number of a segment's rows. -/
theorem count_at (g : IVec S8192 32) (b : Fin 64) : count g (ix1 b) = ∑ r : Fin 8192, if (g (ix1 r)).toInt = (b.val : ℤ) then 1 else 0 := by
  unfold count
  rw [scat1_at]
  pointwise

/-- The sum of a segment's rows. -/
theorem total_at (a : FVec Ideal S8192x256 .f32) (g : IVec S8192 32) (b : Fin 64) (d : Fin 256) :
    total a g (ix2 b d) = ∑ r : Fin 8192, if (g (ix1 r)).toInt = (b.val : ℤ) then a (ix2 r d) else 0 := by
  unfold total
  rw [scat2_at]
  pointwise

/-- The maximum of a segment's rows. -/
theorem most_at (a : FVec Ideal S8192x256 .f32) (g : IVec S8192 32) (b : Fin 64) (d : Fin 256) : most a g (ix2 b d) = Finset.fold max (Ideal.ofBits FTy.f32 4286578688#32)
      (fun x : Fin 8192 =>
        Scalar.select (IntOp.cmpi CmpIPredicate.eq (g (ix1 x)) (BitVec.ofNat 32 b.val)) (a (ix2 x d))
          (Ideal.ofBits FTy.f32 4286578688#32))
      Finset.univ := by
  pointwise [most]

/-- The pooled result at an entry: the maxima in the first half, the means in the second. -/
theorem pool_at (c : FVec Ideal S64 .f32) (t s : FVec Ideal S64x256 .f32) (b : Fin 64) (y : Fin 512) :
    pool c t s (ix2 b y) = if h : y.val < 256 then if 0 < c (ix1 b) then t (ix2 b ⟨y.val, h⟩) else 0
      else if 0 < c (ix1 b) then Ideal.div (s (ix2 b ⟨y.val - 256, by omega⟩)) (max (c (ix1 b)) 1) else 0 := by
  pointwise [pool]

end Cert.ReferenceIdeal.Val

end
-- ==== Proof.Held.lean ====
/-
  What the scratch buffers hold after the four projection points, read against the reference's arrays.
-/
module

public import proofs.«01_k».proof.Proof.Blocks
public import proofs.«01_k».proof.Proof.Ref
public import Idealize.ShloMosaic.Lib.Pointwise

@[expose] public section

set_option maxRecDepth 16384

noncomputable section

namespace Cert.KernelIdeal.Val

open Cert.Rows Cert.Ext Cert.KernelIdeal Cert.KernelIdeal.Gen Cert.KernelIdeal.Slab Cert.KernelIdeal.Att Cert.KernelIdeal.Proj Cert.KernelIdeal.Run
open Cert.ReferenceIdeal.Val (lin relu lin_at relu_at)
open Idealize.ShloMosaic Idealize.ShloMosaic.TcCoe

variable (m : (ℓ : Loc nD τ sig) → Buf (Elt Ideal) ℓ) (c : Dev nD)

/-- The embedded rows. -/
def Hs : FVec Ideal S8192x256 .f32 := relu (lin (m ((c : Thread nD τ).loc main_arg0)) (m ((c : Thread nD τ).loc main_arg1)) (m ((c : Thread nD τ).loc main_arg2)))
/-- The queries. -/
def Qs : FVec Ideal S8192x256 .f32 := lin (Hs m c) (m ((c : Thread nD τ).loc main_arg3)) (m ((c : Thread nD τ).loc main_arg4))
/-- The keys. -/
def Ks : FVec Ideal S8192x256 .f32 := lin (Hs m c) (m ((c : Thread nD τ).loc main_arg5)) (m ((c : Thread nD τ).loc main_arg6))
/-- The values. -/
def Vs : FVec Ideal S8192x256 .f32 := lin (Hs m c) (m ((c : Thread nD τ).loc main_arg7)) (m ((c : Thread nD τ).loc main_arg8))

/-- The arrays the scores are computed from hold real numbers. -/
structure Finite : Prop where
  h0 : ∀ i, IsR (m ((c : Thread nD τ).loc main_arg0) i)
  h1 : ∀ i, IsR (m ((c : Thread nD τ).loc main_arg1) i)
  h2 : ∀ i, IsR (m ((c : Thread nD τ).loc main_arg2) i)
  h3 : ∀ i, IsR (m ((c : Thread nD τ).loc main_arg3) i)
  h4 : ∀ i, IsR (m ((c : Thread nD τ).loc main_arg4) i)
  h5 : ∀ i, IsR (m ((c : Thread nD τ).loc main_arg5) i)
  h6 : ∀ i, IsR (m ((c : Thread nD τ).loc main_arg6) i)

/-- A linear map's entries are real numbers where its parts are. -/
theorem lin_isR {x : FVec Ideal S8192x256 .f32} {w : FVec Ideal S256x256 .f32} {b : FVec Ideal S256 .f32} (hx : ∀ r k, IsR (x (ix2 r k)))
    (hw : ∀ i, IsR (w i)) (hb : ∀ i, IsR (b i)) (r : Fin 8192) (k : Fin 256) : IsR (lin x w b (ix2 r k)) := by
  rw [lin_at]
  exact (IsR.sum _ fun j _ => (hx r j).mul (hw _)).add (hb _)

variable {m c}

/-- The embedded rows are real. -/
theorem Hs_isR (h : Finite m c) (r : Fin 8192) (k : Fin 256) : IsR (Hs m c (ix2 r k)) := by
  unfold Hs
  rw [relu_at]
  exact (lin_isR (fun r k => h.h0 _) h.h1 h.h2 r k).max IsR.zero
/-- The queries are real. -/
theorem Qs_isR (h : Finite m c) (r : Fin 8192) (k : Fin 256) : IsR (Qs m c (ix2 r k)) := lin_isR (Hs_isR h) h.h3 h.h4 r k
/-- The keys are real. -/
theorem Ks_isR (h : Finite m c) (r : Fin 8192) (k : Fin 256) : IsR (Ks m c (ix2 r k)) := lin_isR (Hs_isR h) h.h5 h.h6 r k

variable (m c)

/-- A projection point's embedded rows. -/
theorem emb_row (t : Fin cfg0.N) (ht : t.val < 4) (r : Fin 2048) (k : Fin 256) :
    k0_pay9 (iblk m c 0 t) (iblk m c 1 t) (iblk m c 2 t) (ix2 r k) = Hs m c (ix2 (row t.val r) k) := by
  unfold Hs
  rw [pay9_at, relu_at, lin_at, blk2]
  refine congrArg (fun z => max (z + _) 0) (Finset.sum_congr rfl fun j _ => ?_)
  rw [blk0 m c t ht, blk1]

/-- A projection point's scaled queries. -/
theorem q_row (t : Fin cfg0.N) (ht : t.val < 4) (r : Fin 2048) (k : Fin 256) :
    k0_pay11 (iblk m c 0 t) (iblk m c 1 t) (iblk m c 2 t) (iblk m c 3 t) (iblk m c 4 t) (ix2 r k) = Qs m c (ix2 (row t.val r) k) * (scl : EReal) := by
  unfold Qs
  rw [pay11_at, lin_at, blk4]
  refine congrArg (fun z => (z + _) * _) (Finset.sum_congr rfl fun j _ => ?_)
  rw [emb_row m c t ht, blk3]

/-- A projection point's row sums of squares of the scaled queries. -/
theorem n_row (t : Fin cfg0.N) (ht : t.val < 4) (r : Fin 2048) :
    k0_pay12 (iblk m c 0 t) (iblk m c 1 t) (iblk m c 2 t) (iblk m c 3 t) (iblk m c 4 t) (ix2 r (0 : Fin 1))
      = ∑ k : Fin 256, Qs m c (ix2 (row t.val r) k) * (scl : EReal) * (Qs m c (ix2 (row t.val r) k) * (scl : EReal)) := by
  rw [pay12_at]
  refine Finset.sum_congr rfl fun k _ => ?_
  have e : k0_pay10 (iblk m c 0 t) (iblk m c 1 t) (iblk m c 2 t) (iblk m c 3 t) (iblk m c 4 t) (ix2 r k) = Qs m c (ix2 (row t.val r) k) * (scl : EReal) := by
    rw [← q_row m c t ht, pay10_at, pay11_at]
  rw [e]

/-- A projection point's keys, before they are stored. -/
theorem k_row' (t : Fin cfg0.N) (ht : t.val < 4) (r : Fin 2048) (k : Fin 256) :
    k0_pay4 (k0_pay9 (iblk m c 0 t) (iblk m c 1 t) (iblk m c 2 t)) (iblk m c 5 t) (iblk m c 6 t) (ix2 r k) = Ks m c (ix2 (row t.val r) k) := by
  unfold Ks
  rw [pay4_at, lin_at, blk6]
  refine congrArg (fun z => z + _) (Finset.sum_congr rfl fun j _ => ?_)
  rw [emb_row m c t ht, blk5]

/-- A projection point's keys. -/
theorem k_row (t : Fin cfg0.N) (ht : t.val < 4) (r : Fin 2048) (k : Fin 256) :
    k0_pay5 (k0_pay9 (iblk m c 0 t) (iblk m c 1 t) (iblk m c 2 t)) (iblk m c 5 t) (iblk m c 6 t) (ix2 r k) = Ks m c (ix2 (row t.val r) k) := by
  rw [← k_row' m c t ht, pay5_at, pay4_at]

/-- A projection point's values. -/
theorem v_row (t : Fin cfg0.N) (ht : t.val < 4) (r : Fin 2048) (k : Fin 256) :
    k0_pay6 (k0_pay9 (iblk m c 0 t) (iblk m c 1 t) (iblk m c 2 t)) (iblk m c 7 t) (iblk m c 8 t) (ix2 r k) = Vs m c (ix2 (row t.val r) k) := by
  unfold Vs
  rw [pay6_at, lin_at, blk8]
  refine congrArg (fun z => z + _) (Finset.sum_congr rfl fun j _ => ?_)
  rw [emb_row m c t ht, blk7]

/-- Four puts at the four quarters, read at a row. -/
theorem put4_at {α : Type} {w : ℕ} (x : (⟨2, ![8192, w]⟩ : Shape).Idx → α) (o : Fin 4 → Fin 2 → ℕ) (ho : ∀ t, o t = ![2048 * t.val, 0])
    (p : Fin 4 → ((a : Fin 2) → Fin ((![2048, w] : Fin 2 → ℕ) a)) → α) (t : Fin 4) (r : Fin 2048) (k : Fin w) :
    VecWindow.put (s := ⟨2, ![8192, w]⟩) (VecWindow.put (s := ⟨2, ![8192, w]⟩) (VecWindow.put (s := ⟨2, ![8192, w]⟩) (VecWindow.put (s := ⟨2, ![8192, w]⟩) x (o 0) ![2048, w] (p 0)) (o 1) ![2048, w] (p 1)) (o 2) ![2048, w] (p 2)) (o 3) ![2048, w] (p 3) (ix2 (row t.val r) k)
      = p t (ix2 r k) := by
  have hr := r.isLt
  have hk := k.isLt
  have hrow : (row t.val r).val = 2048 * t.val + r.val := Nat.mod_eq_of_lt (by omega)
  have hin : ∀ a : Fin 2, o t a ≤ ((ix2 (row t.val r) k : (⟨2, ![8192, w]⟩ : Shape).Idx) a).val
      ∧ ((ix2 (row t.val r) k : (⟨2, ![8192, w]⟩ : Shape).Idx) a).val < o t a + (![2048, w] : Fin 2 → ℕ) a := by
    intro a
    rw [ho t]
    match a with
    | ⟨0, _⟩ => show 2048 * t.val ≤ (row t.val r).val ∧ (row t.val r).val < 2048 * t.val + 2048; omega
    | ⟨1, _⟩ => exact ⟨Nat.zero_le _, by show k.val < 0 + w; omega⟩
  have hit : ∀ y : (⟨2, ![8192, w]⟩ : Shape).Idx → α, VecWindow.put (s := ⟨2, ![8192, w]⟩) y (o t) ![2048, w] (p t) (ix2 (row t.val r) k) = p t (ix2 r k) := by
    intro y
    unfold VecWindow.put
    rw [dif_pos hin]
    refine congrArg (p t) ?_
    funext a
    apply Fin.ext
    match a with
    | ⟨0, _⟩ =>
      show (row t.val r).val - o t 0 = r.val
      rw [ho t]; show (row t.val r).val - 2048 * t.val = r.val; omega
    | ⟨1, _⟩ =>
      show k.val - o t 1 = k.val
      rw [ho t]; show k.val - 0 = k.val; omega
  have miss : ∀ (u : Fin 4) (y : (⟨2, ![8192, w]⟩ : Shape).Idx → α), t.val < u.val →
      VecWindow.put (s := ⟨2, ![8192, w]⟩) y (o u) ![2048, w] (p u) (ix2 (row t.val r) k) = y (ix2 (row t.val r) k) := by
    intro u y hu
    unfold VecWindow.put
    refine dif_neg fun h => ?_
    have h0 := (h 0).1
    rw [ho u] at h0
    have h0' : 2048 * u.val ≤ (row t.val r).val := h0
    omega
  match t with
  | 0 => rw [miss 3 _ (by decide), miss 2 _ (by decide), miss 1 _ (by decide), hit]
  | 1 => rw [miss 3 _ (by decide), miss 2 _ (by decide), hit]
  | 2 => rw [miss 3 _ (by decide), hit]
  | 3 => rw [hit]

/-- A quarter's point. -/
abbrev pt (t : Fin 4) : Fin cfg0.N := ⟨t.val, Nat.lt_of_lt_of_le t.isLt (by decide)⟩

/-- What the buffers hold after the projection points. -/
abbrev four : Kept Ideal := keptAt m c 4 (start m c)

/-- The queries held, scaled. -/
theorem four_q (t : Fin 4) (r : Fin 2048) (k : Fin 256) : (four m c).q (ix2 (row t.val r) k) = Qs m c (ix2 (row t.val r) k) * (scl : EReal) :=
  (put4_at _ (fun t => k0_off1 (grid0.coords (pt t))) off1_val
    (fun t => k0_pay11 (iblk m c 0 (pt t)) (iblk m c 1 (pt t)) (iblk m c 2 (pt t)) (iblk m c 3 (pt t)) (iblk m c 4 (pt t))) t r k).trans
    (q_row m c (pt t) t.isLt r k)

/-- The keys held, by tiles. -/
theorem four_k (t : Fin 4) (r : Fin 2048) (k : Fin 256) : (four m c).k (ix2 (row t.val r) k) = Ks m c (ix2 (row t.val r) k) :=
  (put4_at _ (fun t => k0_off1 (grid0.coords (pt t))) off1_val
    (fun t => k0_pay5 (k0_pay9 (iblk m c 0 (pt t)) (iblk m c 1 (pt t)) (iblk m c 2 (pt t))) (iblk m c 5 (pt t)) (iblk m c 6 (pt t))) t r k).trans
    (k_row m c (pt t) t.isLt r k)

/-- The values held, by tiles. -/
theorem four_v (t : Fin 4) (r : Fin 2048) (k : Fin 256) : (four m c).v (ix2 (row t.val r) k) = Vs m c (ix2 (row t.val r) k) :=
  (put4_at _ (fun t => k0_off1 (grid0.coords (pt t))) off1_val
    (fun t => k0_pay6 (k0_pay9 (iblk m c 0 (pt t)) (iblk m c 1 (pt t)) (iblk m c 2 (pt t))) (iblk m c 7 (pt t)) (iblk m c 8 (pt t))) t r k).trans
    (v_row m c (pt t) t.isLt r k)

/-- The row sums of squares held. -/
theorem four_n (t : Fin 4) (r : Fin 2048) : (four m c).n (ix2 (row t.val r) (0 : Fin 1))
    = ∑ k : Fin 256, Qs m c (ix2 (row t.val r) k) * (scl : EReal) * (Qs m c (ix2 (row t.val r) k) * (scl : EReal)) :=
  (put4_at _ (fun t => k0_off2 (grid0.coords (pt t))) off2_val
    (fun t => k0_pay12 (iblk m c 0 (pt t)) (iblk m c 1 (pt t)) (iblk m c 2 (pt t)) (iblk m c 3 (pt t)) (iblk m c 4 (pt t))) t r (0 : Fin 1)).trans
    (n_row m c (pt t) t.isLt r)

/-- Every row is a row of one of the four tiles. -/
theorem row_cases (i : Fin 8192) : ∃ (t : Fin 4) (r : Fin 2048), row t.val r = i := by
  have hi := i.isLt
  refine ⟨⟨i.val / 2048, by omega⟩, ⟨i.val % 2048, Nat.mod_lt _ (by decide)⟩, Fin.ext ?_⟩
  show (2048 * (i.val / 2048) + i.val % 2048) % 8192 = i.val
  omega

/-- The keys held. -/
theorem four_k_all (i : Fin 8192) (k : Fin 256) : (four m c).k (ix2 i k) = Ks m c (ix2 i k) := by
  obtain ⟨t, r, rfl⟩ := row_cases i
  exact four_k m c t r k
/-- The values held. -/
theorem four_v_all (i : Fin 8192) (k : Fin 256) : (four m c).v (ix2 i k) = Vs m c (ix2 i k) := by
  obtain ⟨t, r, rfl⟩ := row_cases i
  exact four_v m c t r k

/-- The first point is the first. -/
theorem first_zero : First (grid0.coords (⟨0, by decide⟩ : Fin grid0.N)) := (first_iff _).mpr rfl

/-- The table of maxima is clear. -/
theorem four_tb : (four m c).tb = k0_pay1 (F := Ideal) := by
  show (projStep m c ⟨3, by decide⟩ (projStep m c ⟨2, by decide⟩ (projStep m c ⟨1, by decide⟩ (projStep m c ⟨0, by decide⟩ (start m c))))).tb = _
  unfold projStep
  simp only [if_pos first_zero, ite_self]
/-- The sums are clear. -/
theorem four_sm : (four m c).sm = k0_pay2 (F := Ideal) := by
  show (projStep m c ⟨3, by decide⟩ (projStep m c ⟨2, by decide⟩ (projStep m c ⟨1, by decide⟩ (projStep m c ⟨0, by decide⟩ (start m c))))).sm = _
  unfold projStep
  simp only [if_pos first_zero, ite_self]
/-- The counts are clear. -/
theorem four_ct : (four m c).ct = k0_pay3 (F := Ideal) := by
  show (projStep m c ⟨3, by decide⟩ (projStep m c ⟨2, by decide⟩ (projStep m c ⟨1, by decide⟩ (projStep m c ⟨0, by decide⟩ (start m c))))).ct = _
  unfold projStep
  simp only [if_pos first_zero, ite_self]

variable {m c}

/-- The square of an extended real is not negative. -/
theorem sq_nonneg' (x : EReal) : 0 ≤ x * x := by
  rcases le_total 0 x with h | h
  · exact mul_nonneg h h
  · have h' : 0 ≤ -x := by
      have := EReal.neg_le_neg_iff.mpr h
      rwa [neg_zero] at this
    have := mul_nonneg h' h'
    rwa [EReal.neg_mul, mul_comm x, EReal.neg_mul, neg_neg] at this

/-- A projection point keeps the running maximum a real number that is not negative. -/
theorem km_step (h : Finite m c) (t : Fin cfg0.N) (ht : t.val < 4) (s : Kept Ideal) (hs : t.val = 0 ∨ (IsR (s.km z1) ∧ 0 ≤ s.km z1)) :
    IsR ((projStep m c t s).km z1) ∧ 0 ≤ (projStep m c t s).km z1 := by
  have e : (projStep m c t s).km z1 = k0_pay7 (k0_pay9 (iblk m c 0 t) (iblk m c 1 t) (iblk m c 2 t)) (iblk m c 5 t) (iblk m c 6 t)
      (if First (grid0.coords t) then Scalar.ofBits (F := Ideal) .f32 0#32 else s.km z1) := rfl
  have hz : IsR (if First (grid0.coords t) then Scalar.ofBits (F := Ideal) .f32 0#32 else s.km z1)
      ∧ 0 ≤ (if First (grid0.coords t) then Scalar.ofBits (F := Ideal) .f32 0#32 else s.km z1) := by
    have z0 : (Scalar.ofBits (F := Ideal) .f32 0#32 : EReal) = 0 := by
      show Ideal.ofBits FTy.f32 0#32 = 0
      simp [Ideal.ofBits, Ideal.ieee]
    by_cases hf : First (grid0.coords t)
    · rw [if_pos hf, z0]; exact ⟨IsR.zero, le_refl _⟩
    · rw [if_neg hf]
      exact hs.resolve_left fun h0 => hf ((first_iff t).mpr h0)
  rw [e, pay7_at]
  refine ⟨hz.1.max (isR_fold (0, 0) fun i => IsR.sum _ fun k _ => ?_), le_max_of_le_left hz.2⟩
  rw [k_row' m c t ht]
  exact (Ks_isR h _ _).mul (Ks_isR h _ _)

/-- The keys' greatest row sum of squares held is real and not negative. -/
theorem four_km (h : Finite m c) : IsR ((four m c).km z1) ∧ 0 ≤ (four m c).km z1 :=
  km_step h ⟨3, by decide⟩ (by decide) _ (.inr (km_step h ⟨2, by decide⟩ (by decide) _ (.inr (km_step h ⟨1, by decide⟩ (by decide) _ (.inr
    (km_step h ⟨0, by decide⟩ (by decide) (start m c) (.inl rfl)))))))

end Cert.KernelIdeal.Val

end
-- ==== Proof.Soft.lean ====
/-
  The attention of one row: the kernel's chunked weighted mean is the softmax's.
-/
module

public import proofs.«01_k».proof.Proof.Value
public import proofs.«01_k».proof.Proof.Ref
public import Idealize.ShloMosaic.Lib.Pointwise

@[expose] public section

set_option maxRecDepth 16384

noncomputable section

namespace Cert.KernelIdeal.Val

open Cert.Rows Cert.Ext Cert.KernelIdeal Cert.KernelIdeal.Gen Cert.KernelIdeal.Slab Cert.KernelIdeal.Att Cert.KernelIdeal.Proj
open Idealize.ShloMosaic Idealize.ShloMosaic.TcCoe

/-- One step of the weights' sum. -/
theorem lstep_at (P : FVec Ideal S2048x512 .f32) (L : FVec Ideal S2048x1 .f32) (r : Fin 2048) :
    addf L (shapeCast S2048x1 (multiReduction .add [1] S2048 P 0x00000000#32 reduces_S2048x512_S2048 (.inl rfl) rfl) shapeCasts_S2048_S2048x1) (ix2 r (0 : Fin 1))
      = L (ix2 r (0 : Fin 1)) + ∑ y : Fin 512, P (ix2 r y) := by
  pointwise []

/-- One step of the weighted sum. -/
theorem astep_at (P : FVec Ideal S2048x512 .f32) (A : FVec Ideal S2048x256 .f32) (v : FVec Ideal S512x256 .bf16) (r : Fin 2048) (d : Fin 256) :
    addf A (matmul dot_S2048x512_S512x256_S2048x256_1_0_0_1_n_n none (truncf .bf16 P bitsLt_bf16_f32) v (constant S2048x256 .f32 0x00000000#32)) (ix2 r d)
      = A (ix2 r d) + ∑ y : Fin 512, P (ix2 r y) * v (ix2 y d) := by
  pointwise []

/-- The quotient of a weighted sum by the weights' sums, at an entry. -/
theorem quot_at (A : FVec Ideal S2048x256 .f32) (L : FVec Ideal S2048x1 .f32) (r : Fin 2048) (d : Fin 256) :
    shapeCast S2048x256 (divf A (broadcastTo S2048x256 L broadcasts_S2048x1_S2048x256)) shapeCasts_S2048x256_S2048x256 (ix2 r d)
      = Ideal.div (A (ix2 r d)) (L (ix2 r (0 : Fin 1))) := by
  pointwise []

/-- The weight of key `i` for query `r`. -/
def wgt (q : FVec Ideal S2048x256 .bf16) (b : FVec Ideal S2048x1 .f32) (k : FVec Ideal S8192x256 .bf16) (r : Fin 2048) (i : ℕ) : EReal :=
  Ideal.exp2 ((∑ x : Fin 256, q (ix2 r x) * k (ix2 (Fin.ofNat 8192 i) x)) - b (ix2 r (0 : Fin 1)))

/-- The weights of a chunk of keys are the keys'. -/
theorem chunk_wgt (q : FVec Ideal S2048x256 .bf16) (b : FVec Ideal S2048x1 .f32) (k : FVec Ideal S8192x256 .bf16) (r : Fin 2048) (o : ℕ) (y : Fin 512) :
    chunkP q b (rowsOf 512 o k) (ix2 r y) = wgt q b k r (o + y.val) := by
  rw [chunk_at]
  rfl

/-- The weights' sum after `n` chunks. -/
theorem attL_at (q : FVec Ideal S2048x256 .bf16) (b : FVec Ideal S2048x1 .f32) (k : FVec Ideal S8192x256 .bf16) (r : Fin 2048) (n : ℕ) :
    attL q b (fun j => rowsOf 512 (512 * j) k) n (ix2 r (0 : Fin 1)) = ∑ i ∈ Finset.range (512 * n), wgt q b k r i := by
  induction n with
  | zero =>
    rw [attL]
    pointwise []
    simp
  | succ n ih =>
    rw [attL, lstep_at, ih, Nat.mul_succ, sum_range_append]
    exact congrArg (_ + ·) (Finset.sum_congr rfl fun y _ => chunk_wgt q b k r (512 * n) y)

/-- The weighted sum after `n` chunks. -/
theorem attA_at (q : FVec Ideal S2048x256 .bf16) (b : FVec Ideal S2048x1 .f32) (k v : FVec Ideal S8192x256 .bf16) (r : Fin 2048) (d : Fin 256) (n : ℕ) :
    attA q b (fun j => rowsOf 512 (512 * j) k) (fun j => rowsOf 512 (512 * j) v) n (ix2 r d)
      = ∑ i ∈ Finset.range (512 * n), wgt q b k r i * v (ix2 (Fin.ofNat 8192 i) d) := by
  induction n with
  | zero =>
    rw [attA]
    pointwise []
    simp
  | succ n ih =>
    rw [attA, astep_at, ih, Nat.mul_succ, sum_range_append]
    refine congrArg (_ + ·) (Finset.sum_congr rfl fun y _ => ?_)
    rw [chunk_wgt q b k r (512 * n) y]
    rfl

/-- The attention of a tile at an entry. -/
theorem attTile_at (q : FVec Ideal S2048x256 .bf16) (n : FVec Ideal S2048x1 .f32) (km : EReal) (k v : FVec Ideal S8192x256 .bf16) (r : Fin 2048) (d : Fin 256) :
    attTile (F := Ideal) q n km k v (ix2 r d)
      = Ideal.div (∑ i : Fin 8192, Ideal.exp2 ((∑ x : Fin 256, q (ix2 r x) * k (ix2 i x)) - Ideal.sqrt (n (ix2 r (0 : Fin 1)) * km)) * v (ix2 i d))
          (∑ i : Fin 8192, Ideal.exp2 ((∑ x : Fin 256, q (ix2 r x) * k (ix2 i x)) - Ideal.sqrt (n (ix2 r (0 : Fin 1)) * km))) := by
  unfold attTile
  rw [quot_at, attL_at, attA_at, show 512 * 16 = 8192 from rfl, Finset.sum_range, Finset.sum_range]
  have hi : ∀ i : Fin 8192, Fin.ofNat 8192 i.val = i := fun i => Fin.ext (Nat.mod_eq_of_lt i.isLt)
  unfold wgt
  rw [pay13_at]
  simp only [hi]

/-- The mean weighted by powers of two of scaled scores less any real bound is the softmax's mean. -/
theorem soft_row (qr : Fin 256 → EReal) (kf : Fin 8192 → Fin 256 → EReal) (v : Fin 8192 → EReal) (β M : EReal)
    (hq : ∀ x, IsR (qr x)) (hk : ∀ i x, IsR (kf i x)) (hβ : IsR β) (hM : IsR M) :
    Ideal.div (∑ i, Ideal.exp2 ((∑ x, qr x * (scl : EReal) * kf i x) - β) * v i) (∑ i, Ideal.exp2 ((∑ x, qr x * (scl : EReal) * kf i x) - β))
      = ∑ i, Ideal.div (Ideal.exp (Ideal.div (∑ x, qr x * kf i x) (Ideal.sqrt (Ideal.ofBits FTy.f32 1132462080#32)) - M))
          (∑ i, Ideal.exp (Ideal.div (∑ x, qr x * kf i x) (Ideal.sqrt (Ideal.ofBits FTy.f32 1132462080#32)) - M)) * v i := by
  choose q' hq' using hq
  choose k' hk' using hk
  obtain ⟨b', rfl⟩ := hβ
  obtain ⟨M', rfl⟩ := hM
  have e1 : ∀ i, Ideal.exp2 ((∑ x, qr x * (scl : EReal) * kf i x) - (b' : EReal))
      = ((Real.exp ((∑ x, q' x * k' i x) / 16 - M') * Real.exp (M' - b' * Real.log 2) : ℝ) : EReal) := by
    intro i
    have : (∑ x, qr x * (scl : EReal) * kf i x) - (b' : EReal) = (((∑ x, q' x * k' i x) * ((Real.log 2)⁻¹ / 16) - b' : ℝ) : EReal) := by
      rw [EReal.coe_sub, Finset.sum_mul, coe_sum]
      refine congrArg (· - (b' : EReal)) (Finset.sum_congr rfl fun x _ => ?_)
      rw [hq', hk', ← EReal.coe_mul, ← EReal.coe_mul]
      exact congrArg _ (by ring)
    rw [this, ← weight_eq]
    rfl
  have e2 : ∀ i, Ideal.exp (Ideal.div (∑ x, qr x * kf i x) (Ideal.sqrt (Ideal.ofBits FTy.f32 1132462080#32)) - (M' : EReal))
      = ((Real.exp ((∑ x, q' x * k' i x) / 16 - M') : ℝ) : EReal) := by
    intro i
    have : Ideal.div (∑ x, qr x * kf i x) (Ideal.sqrt (Ideal.ofBits FTy.f32 1132462080#32)) - (M' : EReal) = (((∑ x, q' x * k' i x) / 16 - M' : ℝ) : EReal) := by
      rw [s256, div_coe _ (by norm_num), EReal.coe_sub, div_eq_mul_inv, EReal.coe_mul, coe_sum]
      refine congrArg (fun z => z * _ - _) (Finset.sum_congr rfl fun x _ => ?_)
      rw [hq', hk', ← EReal.coe_mul]
    rw [this]
    rfl
  simp only [e1, e2]
  exact mean_eq (fun i => Real.exp ((∑ x, q' x * k' i x) / 16 - M')) (fun i => Real.exp_pos _) (Real.exp_pos _) v

end Cert.KernelIdeal.Val

end
-- ==== Proof.Tab.lean ====
/-
  The table of maxima: what a tile's sixteen sub-blocks leave in it.
-/
module

public import proofs.«01_k».proof.Proof.Value
public import Idealize.ShloMosaic.Lib.Pointwise

@[expose] public section

set_option maxRecDepth 16384

noncomputable section

namespace Cert.KernelIdeal.Val

open Cert.Rows Cert.Ext Cert.KernelIdeal Cert.KernelIdeal.Gen Cert.KernelIdeal.Slab Cert.KernelIdeal.Att Cert.KernelIdeal.Proj
open Idealize.ShloMosaic Idealize.ShloMosaic.TcCoe

/-- A word is a small number's word when it stands for that number. -/
theorem eq_word (w : BitVec 32) (b : ℕ) (hb : b < 64) : w = BitVec.ofNat 32 b ↔ w.toNat = b := by
  constructor
  · rintro rfl
    rw [BitVec.toNat_ofNat]
    omega
  · intro h
    apply BitVec.eq_of_toNat_eq
    rw [BitVec.toNat_ofNat]
    omega

/-- A choice made by comparing words, as a condition. -/
theorem select_eq (w v : BitVec 32) (x y : EReal) : Scalar.select (IntOp.cmpi .eq w v) x y = if w = v then x else y := by
  by_cases h : w = v
  · simp [Scalar.select, IntOp.cmpi, h]
  · rw [if_neg h]
    have hb : (w == v) = false := by simp [h]
    simp [Scalar.select, IntOp.cmpi, hb]

/-- A value chosen, or else the least, is at most `z` when the chosen one is. -/
theorem select_le (w : BitVec 32) (b : ℕ) (hb : b < 64) (x z : EReal) :
    Scalar.select (IntOp.cmpi .eq w (BitVec.ofNat 32 b)) x ⊥ ≤ z ↔ (w.toNat = b → x ≤ z) := by
  rw [select_eq]
  by_cases h : w = BitVec.ofNat 32 b
  · rw [if_pos h]; exact ⟨fun h _ => h, fun k => k ((eq_word w b hb).mp h)⟩
  · rw [if_neg h]; exact ⟨fun _ k => absurd ((eq_word w b hb).mpr k) h, fun _ => bot_le⟩

/-- What one sub-block leaves in the table at an entry, by its upper bounds: all that was there and all the rows of the entry's segment. -/
theorem tabMax_le (a : FVec Ideal S128x256 .f32) (s : IVec S128x1 32) (lo n : ℕ) (g : Vec Ideal S64x1x256 .f32) (b : Fin 64) (d : Fin 256) (z : EReal)
    (hs : ∀ x : Fin 128, lo ≤ (s (ix2 x (0 : Fin 1))).toNat ∧ (s (ix2 x (0 : Fin 1))).toNat < lo + n) :
    tabMax a s lo n g (ix3 b (0 : Fin 1) d) ≤ z
      ↔ g (ix3 b (0 : Fin 1) d) ≤ z ∧ ∀ x : Fin 128, (s (ix2 x (0 : Fin 1))).toNat = b.val → a (ix2 x d) ≤ z := by
  have hg : slabOf g b.val (ix3 (0 : Fin 1) (0 : Fin 1) d) = g (ix3 b (0 : Fin 1) d) := by
    refine congrArg g ?_
    funext i
    apply Fin.ext
    match i with
    | ⟨0, _⟩ => exact Nat.mod_eq_of_lt b.isLt
    | ⟨1, _⟩ => rfl
    | ⟨2, _⟩ => rfl
  have hc : colIx d = ix3 (0 : Fin 1) (0 : Fin 1) d := by
    funext i
    match i with
    | ⟨0, _⟩ => rfl
    | ⟨1, _⟩ => rfl
    | ⟨2, _⟩ => rfl
  have e : tabMax a s lo n g (ix3 b (0 : Fin 1) d)
      = if lo ≤ b.val ∧ b.val < lo + n then slabPay a s (BitVec.ofNat 32 b.val) (slabOf g b.val) (colIx d) else g (ix3 b (0 : Fin 1) d) := rfl
  rw [e]
  by_cases h : lo ≤ b.val ∧ b.val < lo + n
  · rw [if_pos h, hc, slab_at, max_le_iff, fold_le, hg]
    exact and_congr Iff.rfl (forall_congr' fun x => select_le _ _ b.isLt _ _)
  · rw [if_neg h]
    refine ⟨fun k => ⟨k, fun x hx => ?_⟩, fun k => k.1⟩
    exact absurd (hx ▸ hs x) h

/-- What a tile's first `u` sub-blocks leave in the table at an entry, by its upper bounds. -/
theorem tabTile_le (att : FVec Ideal S2048x256 .f32) (sc : IVec S2048x1 32) (wd : ℕ → BitVec 32) (p : ℕ) (g : Vec Ideal S64x1x256 .f32)
    (hsc : ∀ r : Fin 2048, sc (ix2 r (0 : Fin 1)) = wd (p + r.val))
    (hm : ∀ i j, i ≤ j → j < p + 2048 → (wd i).toNat ≤ (wd j).toNat) (b : Fin 64) (d : Fin 256) (z : EReal) (u : ℕ) (hu : u ≤ 16) :
    tabTile att sc wd p u g (ix3 b (0 : Fin 1) d) ≤ z
      ↔ g (ix3 b (0 : Fin 1) d) ≤ z ∧ ∀ r : Fin 2048, r.val < 128 * u → (wd (p + r.val)).toNat = b.val → att (ix2 r d) ≤ z := by
  induction u with
  | zero =>
    rw [tabTile]
    exact ⟨fun h => ⟨h, fun r hr => absurd hr (by omega)⟩, fun h => h.1⟩
  | succ u ih =>
    have hrow : ∀ x : Fin 128, (rowsOf 128 (128 * u) sc : IVec S128x1 32) (ix2 x (0 : Fin 1)) = wd (p + (128 * u + x.val)) := by
      intro x
      have hx := x.isLt
      have : (Fin.ofNat 2048 (128 * u + x.val)).val = 128 * u + x.val := Nat.mod_eq_of_lt (by omega)
      have h := hsc (Fin.ofNat 2048 (128 * u + x.val))
      rw [this] at h
      exact h
    rw [tabTile, tabMax_le, ih (by omega)]
    · rw [and_assoc]
      refine and_congr Iff.rfl ⟨fun h r hr hb => ?_, fun h => ⟨fun r hr => h r (by omega), fun x hx => ?_⟩⟩
      · by_cases hr' : r.val < 128 * u
        · exact h.1 r hr' hb
        · have h2 := h.2 ⟨r.val - 128 * u, by omega⟩
          rw [hrow] at h2
          have e : 128 * u + (r.val - 128 * u) = r.val := by omega
          have e' : (Fin.ofNat 2048 (128 * u + (r.val - 128 * u))) = r := Fin.ext (by rw [e]; exact Nat.mod_eq_of_lt r.isLt)
          have h3 := h2 (by rw [e]; exact hb)
          have e2 : (rowsOf 128 (128 * u) att : FVec Ideal S128x256 .f32) (ix2 (⟨r.val - 128 * u, by omega⟩ : Fin 128) d) = att (ix2 r d) :=
            congrArg (fun r => att (ix2 r d)) e'
          rw [← e2]
          exact h3
      · have hx' := x.isLt
        have ev : (Fin.ofNat 2048 (128 * u + x.val)).val = 128 * u + x.val := Nat.mod_eq_of_lt (by omega)
        rw [hrow] at hx
        exact h (Fin.ofNat 2048 (128 * u + x.val)) (by rw [ev]; omega) (by rw [ev]; exact hx)
    · intro x
      have hx := x.isLt
      rw [hrow]
      have h1 := hm (p + 128 * u) (p + (128 * u + x.val)) (by omega) (by omega)
      have h2 := hm (p + (128 * u + x.val)) (p + 128 * u + 127) (by omega) (by omega)
      constructor <;> omega

end Cert.KernelIdeal.Val

end
-- ==== Proof.Final.lean ====
/-
  The attention points' sums, counts and maxima, and the result: the reference's.
-/
module

public import proofs.«01_k».proof.Proof.Held
public import proofs.«01_k».proof.Proof.Soft
public import proofs.«01_k».proof.Proof.Tab
public import Idealize.ShloMosaic.Lib.Pointwise

@[expose] public section

set_option maxRecDepth 16384

noncomputable section

namespace Cert.KernelIdeal.Val

open Cert.Rows Cert.Ext Cert.KernelIdeal Cert.KernelIdeal.Gen Cert.KernelIdeal.Slab Cert.KernelIdeal.Att Cert.KernelIdeal.Proj Cert.KernelIdeal.Run
open Cert.ReferenceIdeal.Val (score top expo attend count total most pool whole score_at top_at expo_at attend_at count_at total_at most_at pool_at)
open Idealize.ShloMosaic Idealize.ShloMosaic.TcCoe

variable (m : (ℓ : Loc nD τ sig) → Buf (Elt Ideal) ℓ) (c : Dev nD)

/-- The scores. -/
def Ss : FVec Ideal Cert.ReferenceIdeal.S8192x8192 .f32 := score (Qs m c) (Ks m c)
/-- The attention. -/
def As : FVec Ideal S8192x256 .f32 := attend (expo (Ss m c) (top (Ss m c))) (Vs m c)
/-- The word of row `i`'s segment. -/
def wd (i : ℕ) : BitVec 32 := entry (N := 8192) (m ((c : Thread nD τ).loc main_arg9)) i

/-- The segments are in range and in order. -/
structure Sorted : Prop where
  lt : ∀ i, (wd m c i).toNat < 64
  le : ∀ i j, i ≤ j → j < 8192 → (wd m c i).toNat ≤ (wd m c j).toNat

/-- An attention point. -/
abbrev at4 (t : Fin 4) : Fin cfg0.N := ⟨4 + t.val, by have := t.isLt; show 4 + t.val < 8; omega⟩

/-- An attention point's tile. -/
theorem at4_val : ∀ t : Fin 4, (grid0.coords (⟨4 + t.val, by have := t.isLt; show 4 + t.val < 8; omega⟩ : Fin grid0.N) 0).val - 4 = t.val := by decide +kernel

/-- The buffers of the projections are as the projection points left them. -/
structure Same (s : Kept Ideal) : Prop where
  q : s.q = (four m c).q
  k : s.k = (four m c).k
  v : s.v = (four m c).v
  n : s.n = (four m c).n
  km : s.km = (four m c).km

variable {m c}

/-- A row's greatest score is a real number. -/
theorem top_isR (h : Finite m c) (i : Fin 8192) : IsR (top (Ss m c) (ix1 i)) := by
  rw [top_at, minf, max_eq_right bot_le]
  refine isR_fold 0 fun j => ?_
  unfold Ss
  rw [score_at, s256, div_coe _ (by norm_num)]
  exact (IsR.sum _ fun x _ => (Qs_isR h _ _).mul (Ks_isR h _ _)).mul (IsR.coe _)

/-- An attention point's tile is the reference's attention. -/
theorem tile_at (h : Finite m c) (t : Fin 4) (s : Kept Ideal) (hs : Same m c s) (r : Fin 2048) (d : Fin 256) :
    tileOf (at4 t) s (ix2 r d) = As m c (ix2 (row t.val r) d) := by
  unfold tileOf
  rw [at4_val t, hs.q, hs.k, hs.v, hs.n, hs.km, attTile_at]
  unfold As
  rw [attend_at]
  have eq : ∀ x : Fin 256, (rowsOf 2048 (2048 * t.val) (four m c).q : FVec Ideal S2048x256 .bf16) (ix2 r x) = Qs m c (ix2 (row t.val r) x) * (scl : EReal) :=
    fun x => four_q m c t r x
  have en : (rowsOf 2048 (2048 * t.val) (four m c).n : FVec Ideal S2048x1 .f32) (ix2 r (0 : Fin 1))
      = ∑ k : Fin 256, Qs m c (ix2 (row t.val r) k) * (scl : EReal) * (Qs m c (ix2 (row t.val r) k) * (scl : EReal)) := four_n m c t r
  have eS : ∀ i : Fin 8192, expo (Ss m c) (top (Ss m c)) (ix2 (row t.val r) i)
      = Ideal.exp (Ideal.div (∑ x : Fin 256, Qs m c (ix2 (row t.val r) x) * Ks m c (ix2 i x)) (Ideal.sqrt (Ideal.ofBits FTy.f32 1132462080#32)) - top (Ss m c) (ix1 (row t.val r))) := by
    intro i
    have e : Ss m c (ix2 (row t.val r) i) = Ideal.div (∑ x : Fin 256, Qs m c (ix2 (row t.val r) x) * Ks m c (ix2 i x)) (Ideal.sqrt (Ideal.ofBits FTy.f32 1132462080#32)) := by
      unfold Ss
      exact score_at (Qs m c) (Ks m c) (row t.val r) i
    rw [expo_at, e]
  rw [en]
  simp only [eq, four_k_all, four_v_all, eS]
  refine soft_row (fun x => Qs m c (ix2 (row t.val r) x)) (fun i x => Ks m c (ix2 i x)) (fun i => Vs m c (ix2 i d)) _ _
    (fun x => Qs_isR h _ _) (fun i x => Ks_isR h _ _) (IsR.sqrt (IsR.mul (IsR.sum _ fun k _ => ?_) (four_km h).1) (mul_nonneg (Finset.sum_nonneg fun k _ => sq_nonneg' _) (four_km h).2)) (top_isR h _)
  exact ((Qs_isR h _ _).mul (IsR.coe _)).mul ((Qs_isR h _ _).mul (IsR.coe _))

/-- What the buffers hold after `n` of the attention points. -/
structure After (n : ℕ) (s : Kept Ideal) : Prop where
  same : Same m c s
  sm : ∀ (b : Fin 64) (d : Fin 256), s.sm (ix2 b d) = ∑ i ∈ Finset.range (2048 * n), if (wd m c i).toNat = b.val then As m c (ix2 (Fin.ofNat 8192 i) d) else 0
  ct : ∀ b : Fin 64, s.ct (ix2 b (0 : Fin 1)) = ∑ i ∈ Finset.range (2048 * n), if (wd m c i).toNat = b.val then 1 else 0
  tb : ∀ (b : Fin 64) (d : Fin 256) (z : EReal), s.tb (ix3 b (0 : Fin 1) d) ≤ z
    ↔ ∀ i, i < 2048 * n → (wd m c i).toNat = b.val → As m c (ix2 (Fin.ofNat 8192 i) d) ≤ z

/-- Before the attention points the tables are clear. -/
theorem after_zero : After (m := m) (c := c) 0 (four m c) where
  same := ⟨rfl, rfl, rfl, rfl, rfl⟩
  sm b d := by rw [four_sm, pay2_at]; simp
  ct b := by rw [four_ct, pay3_at]; simp
  tb b d z := by
    rw [four_tb, pay1_at]
    exact ⟨fun _ i hi => absurd hi (by omega), fun _ => bot_le⟩

/-- The mask of a segment, at a row of an attention point's tile. -/
theorem mask_at (t : Fin 4) (b : Fin 64) (x : Fin 2048) :
    k0_pay43 (F := Ideal) (iblk m c 9 (at4 t)) (ix2 b x) = if (wd m c (2048 * t.val + x.val)).toNat = b.val then 1 else 0 := by
  have e : iblk m c 9 (at4 t) (ix3 (0 : Fin 1) (0 : Fin 1) x) = wd m c (2048 * t.val + x.val) := by
    rw [blk9 m c (at4 t) (Nat.le_add_right 4 _)]
    have : (at4 t).val - 4 = t.val := Nat.add_sub_cancel_left 4 t.val
    rw [this]
    rfl
  rw [pay43_at, e, select_eq]
  exact if_congr (eq_word _ _ b.isLt) rfl rfl

/-- An attention point takes its tile into the tables. -/
theorem after_succ (h : Finite m c) (g : Sorted m c) (t : Fin 4) (s : Kept Ideal) (hs : After (m := m) (c := c) t.val s) :
    After (m := m) (c := c) (t.val + 1) (attStep m c (at4 t) s) where
  same := ⟨hs.same.q, hs.same.k, hs.same.v, hs.same.n, hs.same.km⟩
  sm b d := by
    have e : (attStep m c (at4 t) s).sm = k0_pay45 (k0_pay44 (tileOf (at4 t) s) (iblk m c 9 (at4 t)) s.sm) := rfl
    rw [e, pay45_at, hs.sm, Nat.mul_succ, sum_range_append]
    refine congrArg (_ + ·) (Finset.sum_congr rfl fun x _ => ?_)
    rw [mask_at, tile_at h t s hs.same]
    by_cases hb : (wd m c (2048 * t.val + x.val)).toNat = b.val
    · rw [if_pos hb, if_pos hb, one_mul]
    · rw [if_neg hb, if_neg hb, zero_mul]
  ct b := by
    have e : (attStep m c (at4 t) s).ct = k0_pay46 (k0_pay43 (iblk m c 9 (at4 t))) s.ct := rfl
    rw [e, pay46_at, hs.ct, Nat.mul_succ, sum_range_append]
    exact congrArg (_ + ·) (Finset.sum_congr rfl fun x _ => mask_at t b x)
  tb b d z := by
    have ht := t.isLt
    have ew : entry (N := 8192) (iblk m c 11 (at4 t)) = wd m c := by
      funext p
      exact blk11 m c (at4 t) (Fin.ofNat 8192 p)
    have e : (attStep m c (at4 t) s).tb = tabTile (tileOf (at4 t) s) (k0_pay42 (iblk m c 10 (at4 t))) (wd m c) (2048 * t.val) 16 s.tb := by
      rw [← ew, ← at4_val t]
      rfl
    have ec : ∀ r : Fin 2048, k0_pay42 (F := Ideal) (iblk m c 10 (at4 t)) (ix2 r (0 : Fin 1)) = wd m c (2048 * t.val + r.val) := by
      intro r
      rw [pay42_at, blk10 m c (at4 t) (Nat.le_add_right 4 _)]
      have : (at4 t).val - 4 = t.val := Nat.add_sub_cancel_left 4 t.val
      rw [this]
      rfl
    rw [e, tabTile_le _ _ _ _ _ ec (fun i j hij hj => g.le i j hij (by omega)) b d z 16 (le_refl _), hs.tb]
    constructor
    · rintro ⟨h1, h2⟩ i hi hb
      by_cases hi' : i < 2048 * t.val
      · exact h1 i hi' hb
      · have hr := h2 ⟨i - 2048 * t.val, by omega⟩ (by show i - 2048 * t.val < 128 * 16; omega)
          (by show (wd m c (2048 * t.val + (i - 2048 * t.val))).toNat = _; rw [Nat.add_sub_cancel' (by omega)]; exact hb)
        rw [tile_at h t s hs.same] at hr
        have ei : row t.val ⟨i - 2048 * t.val, by omega⟩ = Fin.ofNat 8192 i := by
          show Fin.ofNat 8192 (2048 * t.val + (i - 2048 * t.val)) = _
          rw [Nat.add_sub_cancel' (by omega)]
        rwa [ei] at hr
    · intro h1
      refine ⟨fun i hi hb => h1 i (by omega) hb, fun r hr hb => ?_⟩
      rw [tile_at h t s hs.same]
      have := r.isLt
      exact h1 (2048 * t.val + r.val) (by omega) hb

/-- What the buffers hold at the end. -/
theorem after_last (h : Finite m c) (g : Sorted m c) : After (m := m) (c := c) 4 (last m c) := by
  have e : last m c = attStep m c (at4 3) (attStep m c (at4 2) (attStep m c (at4 1) (attStep m c (at4 0) (four m c)))) := rfl
  rw [e]
  exact after_succ h g 3 _ (after_succ h g 2 _ (after_succ h g 1 _ (after_succ h g 0 _ after_zero)))

/-- A segment in range is the same number signed and unsigned. -/
theorem toInt_eq (w : BitVec 32) (hw : w.toNat < 64) (b : ℕ) : w.toInt = (b : ℤ) ↔ w.toNat = b := by
  rw [BitVec.toInt_eq_toNat_of_lt (by omega)]
  exact Int.ofNat_inj

/-- A row's segment number. -/
theorem wd_fin (i : Fin 8192) : m ((c : Thread nD τ).loc main_arg9) (ix1 i) = wd m c i.val := by
  have hi : Fin.ofNat 8192 i.val = i := Fin.ext (Nat.mod_eq_of_lt i.isLt)
  unfold wd entry
  rw [hi]

/-- The counts are the reference's. -/
theorem count_eq (h : Finite m c) (g : Sorted m c) (b : Fin 64) : count (m ((c : Thread nD τ).loc main_arg9)) (ix1 b) = (last m c).ct (ix2 b (0 : Fin 1)) := by
  rw [(after_last h g).ct, count_at, show 2048 * 4 = 8192 from rfl, Finset.sum_range]
  refine Finset.sum_congr rfl fun i _ => ?_
  rw [wd_fin (m := m) (c := c)]
  exact if_congr (toInt_eq _ (g.lt _) _) rfl rfl

/-- The sums are the reference's. -/
theorem total_eq (h : Finite m c) (g : Sorted m c) (b : Fin 64) (d : Fin 256) :
    total (As m c) (m ((c : Thread nD τ).loc main_arg9)) (ix2 b d) = (last m c).sm (ix2 b d) := by
  rw [(after_last h g).sm, total_at, show 2048 * 4 = 8192 from rfl, Finset.sum_range]
  refine Finset.sum_congr rfl fun i _ => ?_
  have hi : Fin.ofNat 8192 i.val = i := Fin.ext (Nat.mod_eq_of_lt i.isLt)
  rw [wd_fin (m := m) (c := c), hi]
  exact if_congr (toInt_eq _ (g.lt _) _) rfl rfl

/-- The maxima are the reference's. -/
theorem most_eq (h : Finite m c) (g : Sorted m c) (b : Fin 64) (d : Fin 256) :
    most (As m c) (m ((c : Thread nD τ).loc main_arg9)) (ix2 b d) = (last m c).tb (ix3 b (0 : Fin 1) d) := by
  refine eq_of_forall_ge_iff fun z => ?_
  rw [(after_last h g).tb, most_at, minf, fold_le]
  constructor
  · intro h1 i hi hb
    have h2 := h1 (Fin.ofNat 8192 i)
    rw [wd_fin (m := m) (c := c), select_le _ _ b.isLt] at h2
    have ei : (Fin.ofNat 8192 i).val = i := Nat.mod_eq_of_lt (by omega)
    exact h2 (by rw [ei]; exact hb)
  · intro h1 i
    rw [wd_fin (m := m) (c := c), select_le _ _ b.isLt]
    intro hb
    have h2 := h1 i.val (by have := i.isLt; omega) hb
    have hi : Fin.ofNat 8192 i.val = i := Fin.ext (Nat.mod_eq_of_lt i.isLt)
    rwa [hi] at h2

/-- The kernel's result is the reference's. -/
theorem result_eq (h : Finite m c) (g : Sorted m c) :
    result m c = whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) := by
  have e : whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      = pool (count (m ((c : Thread nD τ).loc main_arg9))) (most (As m c) (m ((c : Thread nD τ).loc main_arg9))) (total (As m c) (m ((c : Thread nD τ).loc main_arg9))) := by
    unfold whole As Ss Qs Ks Vs Hs
    rfl
  rw [e]
  funext i
  obtain ⟨b, y, rfl⟩ : ∃ (b : Fin 64) (y : Fin 512), i = ix2 b y := ⟨i 0, i 1, eq_ix2 i⟩
  unfold result
  rw [pay8_at, pool_at, count_eq h g]
  split
  · rw [most_eq h g]
  · rw [total_eq h g]

end Cert.KernelIdeal.Val

end
-- ==== Proof.lean ====
module

public import proofs.«01_k».proof.Defs
public import proofs.«01_k».proof.Proof.Range
public import proofs.«01_k».proof.Proof.Run
public import proofs.«01_k».proof.Proof.RunWords
public import proofs.«01_k».proof.Proof.Reads
public import proofs.«01_k».proof.Proof.Out
public import proofs.«01_k».proof.Proof.Final
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The side condition the first precondition states. -/
theorem rangeFacts : Cert.Pre_batch_in_range.Facts := ⟨by decide⟩

local instance : Cert.Pre_batch_in_range.Facts := rangeFacts

/-- The kernel ends with its arguments unchanged and its counters at zero. -/
theorem frame_p : Cert.quiescent_Kernel := fun m ρ hp =>
  Cert.Kernel.Run.frame ρ (Cert.Kernel.Run.inRange_of fun c j => Cert.Range.lt_of_pre (hp c) j)

/-- So does its idealized reading. -/
theorem frame_pi : Cert.quiescent_KernelIdeal := fun m ρ hp =>
  Cert.KernelIdeal.Run.frame ρ (Cert.KernelIdeal.Run.inRange_of fun c j => Cert.Range.lt_of_pre (hp c) j)

/-- So does the reference. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The named constant is the reciprocal of the natural logarithm of two. -/
theorem preserves : Cert.preserves_Kernel_KernelIdeal :=
  IdealRules.named_const.statement Cert.KernelIdeal.κ "log2e" .f32 0x3FB8AA3B#32 (((Real.log 2)⁻¹ : ℝ) : EReal) rfl

local instance : Cert.Pre_sorted_and_finite.Facts := Cert.Reads.sortedFacts

/-- The second precondition puts the segments in range, which is all the frame needs. -/
theorem frame_pi_sorted : Cert.quiescent_KernelIdeal_pre_sorted_and_finite := fun m ρ hp =>
  Cert.KernelIdeal.Run.frame ρ (Cert.KernelIdeal.Run.inRange_of fun c j => Cert.Reads.lt_at (hp c).1 j)

/-- The reference's frame needs nothing. -/
theorem frame_ri_sorted : Cert.quiescent_ReferenceIdeal_pre_sorted_and_finite := fun m ρ _ => frame_ri m ρ trivial

/-- The second precondition makes the arrays the scores are computed from real. -/
theorem finite_of {m : (ℓ : Loc Cert.KernelIdeal.nD Cert.KernelIdeal.τ Cert.KernelIdeal.sig) → Buf (Elt Ideal) ℓ} (hp : Cert.Pre_KernelIdeal_sorted_and_finite m)
    (c : Dev Cert.KernelIdeal.nD) : Cert.KernelIdeal.Val.Finite m c where
  h0 := Cert.Reads.fin0 (hp c).2.2.1
  h1 := Cert.Reads.fin1 (hp c).2.2.2.1
  h2 := Cert.Reads.fin2 (hp c).2.2.2.2.1
  h3 := Cert.Reads.fin3 (hp c).2.2.2.2.2.1
  h4 := Cert.Reads.fin4 (hp c).2.2.2.2.2.2.1
  h5 := Cert.Reads.fin5 (hp c).2.2.2.2.2.2.2.1
  h6 := Cert.Reads.fin6 (hp c).2.2.2.2.2.2.2.2

/-- The second precondition puts the segments in range and in order. -/
theorem sorted_of {m : (ℓ : Loc Cert.KernelIdeal.nD Cert.KernelIdeal.τ Cert.KernelIdeal.sig) → Buf (Elt Ideal) ℓ} (hp : Cert.Pre_KernelIdeal_sorted_and_finite m)
    (c : Dev Cert.KernelIdeal.nD) : Cert.KernelIdeal.Val.Sorted m c where
  lt i := Cert.Reads.lt_at (hp c).1 _
  le i j hij hj := Cert.Reads.order (hp c).1 (hp c).2.1 i j hij hj

/-- The idealized kernel and the reference leave the same result. -/
theorem algebraic : Cert.algebraic_KernelIdeal_ReferenceIdeal_pre_sorted_and_finite := fun m g m' g' hp he => by
  have hw : Cert.KernelIdeal.Run.InRange m := Cert.KernelIdeal.Run.inRange_of fun c j => Cert.Reads.lt_at (hp c).1 j
  refine ⟨fun c => Cert.KernelIdeal.Run.result m c, ?_, ?_⟩
  · exact (θ_run Cert.KernelIdeal.defs _ _).mono (fun r h c => ⟨h.1 c, h.2.1 c⟩)
      (θ_run_and (Cert.KernelIdeal.Run.value g hw) (Cert.KernelIdeal.Run.frame g hw))
  · refine (θ_run Cert.ReferenceIdeal.defs _ _).mono (fun r h c => ⟨(h c).1.trans ?_, (h c).2⟩) (Cert.ReferenceIdeal.Value.run (F := Ideal) m' g')
    obtain ⟨e0, e1, e2, e3, e4, e5, e6, e7, e8, e9⟩ := he c
    rw [Cert.ReferenceIdeal.Val.res_eq, e0, e1, e2, e3, e4, e5, e6, e7, e8, e9]
    exact (Cert.KernelIdeal.Val.result_eq (finite_of hp c) (sorted_of hp c)).symm

/-- Everything claimed. -/
theorem claim : Cert.Claim :=
  ⟨Cert.Kernel.Gen.facts, Cert.KernelIdeal.Gen.facts, Cert.ReferenceIdeal.Gen.facts, rangeFacts, Cert.Reads.sortedFacts, frame_p, frame_pi, frame_pi_sorted, frame_ri,
    frame_ri_sorted, preserves, algebraic⟩

end Cert.Proof

end
